-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x100000 : Shape := ⟨2, ![256, 100000]⟩
abbrev S1x100000 : Shape := ⟨2, ![1, 100000]⟩
abbrev S256x1024 : Shape := ⟨2, ![256, 1024]⟩
abbrev S1x1024 : Shape := ⟨2, ![1, 1024]⟩
abbrev S8x128 : Shape := ⟨2, ![8, 128]⟩
abbrev S8x1 : Shape := ⟨2, ![8, 1]⟩
abbrev S128 : Shape := ⟨1, ![128]⟩
abbrev S1x128 : Shape := ⟨2, ![1, 128]⟩
abbrev S100000 : Shape := ⟨1, ![100000]⟩

abbrev nBuf : Space → Nat
  | .hbm => 3
  | .vmem => 4
  | .smem => 0
  | _ => 0

abbrev bufTy : (tb : Table) → Fin (tcTables nBuf tb) → BufTy
  | .hbm, ⟨0, _⟩ => ⟨S256x100000, .f32⟩
  | .hbm, ⟨1, _⟩ => ⟨S1x100000, .f32⟩
  | .hbm, ⟨2, _⟩ => ⟨S100000, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | _, _ => ⟨S256x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S256x100000 : Shape := ⟨2, ![256, 100000]⟩
abbrev S192x100000 : Shape := ⟨2, ![192, 100000]⟩
abbrev S_ : Shape := ⟨0, ![]⟩
abbrev S100000 : Shape := ⟨1, ![100000]⟩

abbrev nBuf : Space → Nat
  | .hbm => 12
  | .vmem => 0
  | .smem => 0
  | _ => 0

abbrev bufTy : (tb : Table) → Fin (tcTables nBuf tb) → BufTy
  | .hbm, ⟨0, _⟩ => ⟨S256x100000, .f32⟩
  | .hbm, ⟨1, _⟩ => ⟨S256x100000, .f32⟩
  | .hbm, ⟨2, _⟩ => ⟨S192x100000, .f32⟩
  | .hbm, ⟨3, _⟩ => ⟨S_, .f32⟩
  | .hbm, ⟨4, _⟩ => ⟨S100000, .f32⟩
  | .hbm, ⟨5, _⟩ => ⟨S_, .f32⟩
  | .hbm, ⟨6, _⟩ => ⟨S100000, .f32⟩
  | .hbm, ⟨7, _⟩ => ⟨S100000, .f32⟩
  | .hbm, ⟨8, _⟩ => ⟨S_, .f32⟩
  | .hbm, ⟨9, _⟩ => ⟨S100000, .f32⟩
  | .hbm, ⟨10, _⟩ => ⟨S100000, .f32⟩
  | .hbm, ⟨11, _⟩ => ⟨S100000, .f32⟩
  | _, _ => ⟨S256x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Net.lean ====
/-
  The arithmetic of one chunk of the kernel: 32 registers of 8 × 128 lanes hold 256 clients' values of 128 coordinates,
  and a bitonic network sorts them as far as the trimmed sum needs. Everything here is over any float operations.

  A register file is a list of 32 registers. The network's stages are functions of the file, and `chunkVal` is what
  the chunk stores. The definitions are reducible so that a printed program, all of whose registers are separate
  variables, compares with them by computation.
-/
module

public import Idealize.ShloMosaic.Lib.Pipeline
public import Idealize.ShloMosaic.PureOps

@[expose] public section

noncomputable section

namespace Cert.Net

open Idealize.ShloMosaic

abbrev S8x128 : Shape := ⟨2, ![8, 128]⟩
abbrev S8x1 : Shape := ⟨2, ![8, 1]⟩
abbrev S128 : Shape := ⟨1, ![128]⟩
abbrev S1x128 : Shape := ⟨2, ![1, 128]⟩

theorem iotaOK : S8x1.Iotas .tc 32 [0] := by decide
theorem bcastOK : S8x1.Broadcasts S8x128 := by decide
theorem rotOK : S8x128.Rotates 0 none := by decide
theorem castOK : S8x1.ShapeCasts S8x1 := rfl
theorem redOK : S8x128.Reduces [0] S128 := by decide
theorem castOK' : S128.ShapeCasts S1x128 := by decide

variable {F : FTy → Type} [FloatOps F]

/-- One register. -/
abbrev Reg (F : FTy → Type) : Type := FVec F S8x128 .f32

/-- Register `a` of a file; past the end, the zero register. -/
abbrev reg : List (Reg F) → Nat → Reg F
  | [], _ => fun _ => Scalar.ofBits .f32 0#32
  | x :: _, 0 => x
  | _ :: xs, n + 1 => reg xs n

/-- The file of `f 0`, …, `f 31`. -/
abbrev tab (f : Nat → Reg F) : List (Reg F) :=
  [f 0, f 1, f 2, f 3, f 4, f 5, f 6, f 7, f 8, f 9, f 10, f 11, f 12, f 13, f 14, f 15, f 16, f 17, f 18, f 19,
   f 20, f 21, f 22, f 23, f 24, f 25, f 26, f 27, f 28, f 29, f 30, f 31]

/-- The sublane's number. -/
abbrev sub : IVec S8x1 32 := iota .tc S8x1 32 [0] iotaOK

/-- Whether the sublane's number has a bit of `t`. -/
abbrev bit (t : BitVec 32) : IVec S8x1 1 := cmpi .ne (andi sub (broadcast S8x1 t)) (broadcast S8x1 0#32)

/-- A mask of the sublanes, over the lanes too. -/
abbrev wide (b : IVec S8x1 1) : IVec S8x128 1 := broadcastTo S8x128 (shapeCast S8x1 b castOK) bcastOK

/-- Compare and exchange registers `a` and `a ^^^ j`: the smaller value goes to the one without the bit `j`, or to the
    other one where `a` has the bit `k`. -/
abbrev cross (j k : Nat) (v : List (Reg F)) : List (Reg F) := tab fun a =>
  cond (Nat.beq (Nat.land a j) 0)
    (cond (Nat.beq (Nat.land a k) 0) (minimumf (reg v a) (reg v (Nat.xor a j))) (maximumf (reg v a) (reg v (Nat.xor a j))))
    (cond (Nat.beq (Nat.land a k) 0) (maximumf (reg v (Nat.xor a j)) (reg v a)) (minimumf (reg v (Nat.xor a j)) (reg v a)))

/-- Compare and exchange sublanes `s` and `s ^^^ t` of every register: the smaller value goes to the one without the
    bit `t`. `d` is the rotation that brings the other sublane to it, `8 - t`. -/
abbrev across (t d : BitVec 32) (v : List (Reg F)) : List (Reg F) := tab fun a =>
  select (wide (bit t)) (maximumf (reg v a) (dynamicRotate 0 t none (reg v a) rotOK))
    (minimumf (reg v a) (dynamicRotate 0 d none (reg v a) rotOK))

/-- Negate the values on the sublanes of a mask. -/
abbrev flip (b : IVec S8x1 1) (v : List (Reg F)) : List (Reg F) := tab fun a =>
  mulf (reg v a) (broadcastTo S8x128
    (select b (broadcast S8x1 (Scalar.ofBits .f32 0xBF800000#32)) (broadcast S8x1 (Scalar.ofBits .f32 0x3F800000#32)) : FVec F S8x1 .f32) bcastOK)

/-- The merge of runs of 32 values and fewer, within the 32 registers: their bits 4 to 0 in turn. -/
abbrev fiveWays (k : Nat) (v : List (Reg F)) : List (Reg F) :=
  cross 1 k (cross 2 k (cross 4 k (cross 8 k (cross 16 k v))))

/-- The network. -/
abbrev network (v : List (Reg F)) : List (Reg F) :=
  let v := cross 1 2 v
  let v := cross 1 4 (cross 2 4 v)
  let v := cross 1 8 (cross 2 8 (cross 4 8 v))
  let v := cross 1 16 (cross 2 16 (cross 4 16 (cross 8 16 v)))
  let v := fiveWays 32 (flip (bit 4#32) v)
  let v := fiveWays 64 (across 4#32 4#32 (flip (xori (bit 4#32) (bit 1#32)) v))
  let v := fiveWays 128 (across 4#32 4#32 (across 1#32 7#32 (flip (xori (bit 1#32) (bit 2#32)) v)))
  across 4#32 4#32 (across 1#32 7#32 (across 2#32 6#32 (flip (bit 2#32) v)))

/-- The sum of the file, pair by pair. -/
abbrev treeSum : Nat → Nat → List (Reg F) → Reg F
  | 0, a, v => reg v a
  | n + 1, a, v => addf (treeSum n (2 * a) v) (treeSum n (2 * a + 1) v)

/-- The sublanes that are kept: 1 to 6. -/
abbrev keep : IVec S8x1 1 := andi (cmpi .sge sub (broadcast S8x1 1#32)) (cmpi .sle sub (broadcast S8x1 6#32))

/-- The sum of a register over the kept sublanes, the mean of 192 values, its guarded logarithm. -/
abbrev logMean (x : Reg F) : FVec F S1x128 .f32 :=
  log (maximumf
    (divf (shapeCast S1x128 (multiReduction .add [0] S128 (select (wide keep) x (broadcast S8x128 (Scalar.ofBits .f32 0#32)))
        0x00000000#32 redOK (.inl rfl) rfl) castOK')
      (broadcast S1x128 (Scalar.ofBits .f32 0x43400000#32)))
    (broadcast S1x128 (Scalar.ofBits .f32 0x2B8CBCCC#32)))

/-- What a chunk stores, from the 32 registers that it loads. -/
abbrev chunkVal (v : List (Reg F)) : FVec F S1x128 .f32 := logMean (treeSum 5 0 (network v))

end Cert.Net
-- ==== Proof.BodyIdeal.lean ====
module

public import proofs.«01_k».proof.Proof.Gen.KernelIdeal
public import proofs.«01_k».proof.Proof.Net

@[expose] public section

noncomputable section

namespace Cert.KernelIdeal.Body

open Idealize.ShloMosaic Idealize.SL.Sem
open Cert.KernelIdeal Cert.KernelIdeal.Gen

variable {F : FTy → Type} [FloatOps F]

theorem inB (i : Fin 32) (c : Fin 8) : ∀ a, (![8 * i.val, 128 * c.val] : Fin 2 → Nat) a + S8x128.size a ≤ S256x1024.size a := by
  intro a; match a with
  | ⟨0, _⟩ => show 8 * i.val + 8 ≤ 256; omega
  | ⟨1, _⟩ => show 128 * c.val + 128 ≤ 1024; omega
theorem outB (c : Fin 8) : ∀ a, (![0, 128 * c.val] : Fin 2 → Nat) a + S1x128.size a ≤ S1x1024.size a := by
  intro a; match a with
  | ⟨0, _⟩ => show 0 + 1 ≤ 1; omega
  | ⟨1, _⟩ => show 128 * c.val + 128 ≤ 1024; omega

abbrev rows : List (Fin 32) := [0, 1, 2, 3, 4, 5, 6, 7, 8, 9, 10, 11, 12, 13, 14, 15, 16, 17, 18, 19, 20, 21, 22, 23, 24,
  25, 26, 27, 28, 29, 30, 31]

abbrev loads (arg1 : Memref sig .tc .vmem S256x1024 .f32) (c : Fin 8) :
    List (Fin 32) → (List (Net.Reg F) → Prog (TpuEff nD τ sig (Elt F) Λ₀ .tc) PUnit) →
      Prog (TpuEff nD τ sig (Elt F) Λ₀ .tc) PUnit
  | [], k => k []
  | i :: is, k => .op (.load (e := .f32) arg1 (Rect.unit (s := S256x1024) ![8 * i.val, 128 * c.val] S8x128.size (inB i c)).toLoadRect
      (View.loadsAt_vmem Facts₀.h_S8x128)) fun (x : Vec F S8x128 .f32) => loads arg1 c is fun xs => k (x :: xs)

abbrev chunk (arg1 : Memref sig .tc .vmem S256x1024 .f32) (arg2 : Memref sig .tc .vmem S1x1024 .f32) (c : Fin 8)
    (k : Prog (TpuEff nD τ sig (Elt F) Λ₀ .tc) PUnit) :
    Prog (TpuEff nD τ sig (Elt F) Λ₀ .tc) PUnit :=
  loads arg1 c rows fun v =>
    .op (.load arg2 (Rect.unit (s := S1x1024) ![0, 128 * c.val] S1x128.size (outB c)).toLoadRect (View.loadsAt_vmem Facts₀.h_S1x128)) fun _ =>
    .op (.store arg2 (Rect.unit (s := S1x1024) ![0, 128 * c.val] S1x128.size (outB c)) (Net.chunkVal v) Finset.univ
      (View.stores_vmem_bits_univ Facts₀.h_S1x128 rfl) (.inl rfl)) fun _ => k

abbrev chunks (arg1 : Memref sig .tc .vmem S256x1024 .f32) (arg2 : Memref sig .tc .vmem S1x1024 .f32) :
    List (Fin 8) → Prog (TpuEff nD τ sig (Elt F) Λ₀ .tc) PUnit
  | [] => .ret ⟨⟩
  | c :: cs => chunk arg1 arg2 c (chunks arg1 arg2 cs)

end Cert.KernelIdeal.Body
-- ==== Proof.BodyEqIdeal.lean ====
module

public import proofs.«01_k».proof.Proof.BodyIdeal
public import Idealize.ShloMosaic.Lib.Pipeline.Regions

@[expose] public section

namespace Cert.KernelIdeal.Body

open Idealize.ShloMosaic Idealize.SL.Sem
open Cert.KernelIdeal Cert.KernelIdeal.Gen

/-- The printed body is the eight chunks in turn. -/
theorem body_eq {F : FTy → Type} [FloatOps F] (i : grid0.Coords)
    (arg1 : Memref sig .tc .vmem S256x1024 .f32) (harg1 : arg1.IsWhole)
    (arg2 : Memref sig .tc .vmem S1x1024 .f32) (harg2 : arg2.IsWhole) :
    cc0__trim_body (F := F) i arg1 harg1 arg2 harg2 = chunks arg1 arg2 [0, 1, 2, 3, 4, 5, 6, 7] := by
  chain_rfl

end Cert.KernelIdeal.Body
-- ==== Proof.Triple.lean ====
/-
  What the kernel's body leaves in the result's staging buffer, as a separation-logic triple: the input's buffer is read,
  and each chunk overwrites its 128 lanes of the result's buffer.
-/
module

public import proofs.«01_k».proof.Proof.BodyIdeal
public import proofs.«01_k».proof.Proof.Gen.KernelIdeal.Launch
public import Idealize.ShloMosaic.Lib.Pipeline.FrameBody
public import Idealize.ShloMosaic.Lib.Tactic

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where chunk `c`'s register `i` lies in the input's buffer. -/
abbrev inR (c : Fin 8) (i : Fin 32) : Rect S256x1024 := Rect.unit (s := S256x1024) ![8 * i.val, 128 * c.val] S8x128.size (inB i c)
/-- Where chunk `c`'s result lies in the result's buffer. -/
abbrev outR (c : Fin 8) : Rect S1x1024 := Rect.unit (s := S1x1024) ![0, 128 * c.val] S1x128.size (outB c)

/-- The registers that chunk `c` loads of a buffer that holds `X`. -/
def regs (X : S256x1024.Idx → Elt F .f32) (c : Fin 8) (is : List (Fin 32)) : List (Net.Reg F) :=
  is.map fun i => View.ld X (inR c i)

/-- The result's buffer, which held `Y`, after the chunks `cs`. -/
def left (X : S256x1024.Idx → Elt F .f32) : List (Fin 8) → (S1x1024.Idx → Elt F .f32) → S1x1024.Idx → Elt F .f32
  | [], Y => Y
  | c :: cs, Y => left X cs ((outR c).overlay Y (Net.chunkVal (regs X c rows)))

variable (c : Dev nD) (E : Set ℕ)
  (arg1 : Memref sig .tc .vmem S256x1024 .f32) (arg2 : Memref sig .tc .vmem S1x1024 .f32)

/-- The loads hand the registers to what follows. -/
theorem wp_loads (X : S256x1024.Idx → Elt F .f32) (n : Fin 8) (K : PUnit → sProp 𝕄) : ∀ (is : List (Fin 32))
    (k : List (Net.Reg F) → Prog (TpuEff nD τ sig (Elt F) Λ₀ .tc) PUnit),
    iprop(owns (c : Thread nD τ) arg1 fullShare X
        ∗ (owns (c : Thread nD τ) arg1 fullShare X -∗ wp frame (wpE (defs₀ (F := F)) Variants.none c none) E (k (regs X n is)) K))
      ⊢ wp frame (wpE (defs₀ (F := F)) Variants.none c none) E (loads arg1 n is k) K
  | [], k => by
    iintro ⟨H, Hk⟩
    iapply Hk
    iexact H
  | i :: is, k => by
    have ih := wp_loads X n K is fun xs => k (View.ld X (inR n i) :: xs)
    iintro ⟨H, Hk⟩
    unfold owns
    icases H with ⟨%f, %hf, H⟩
    iapply (wp_load (defs := defs₀ (F := F)) Variants.none (c : Thread nD τ) none E (m := arg1) (f := f)
      (S := arg1.view.set) (View.setOn_subset_set _ _)) $$ H
    iintro H
    rw [show arg1.view.readAt (Elt F) (inR n i).toLoadRect f = View.ld X (inR n i) by rw [← hf]; rfl]
    iapply ih
    isplitl [H]
    · unfold owns; iexists f; isplitr; · ipureintro; exact hf
      iexact H
    · iexact Hk

/-- One chunk, then what follows. -/
theorem wp_chunk (X : S256x1024.Idx → Elt F .f32) (Y : S1x1024.Idx → Elt F .f32) (n : Fin 8) (K : PUnit → sProp 𝕄)
    (k : Prog (TpuEff nD τ sig (Elt F) Λ₀ .tc) PUnit) :
    iprop((owns (c : Thread nD τ) arg1 fullShare X ∗ owns (c : Thread nD τ) arg2 fullShare Y)
        ∗ ((owns (c : Thread nD τ) arg1 fullShare X
              ∗ owns (c : Thread nD τ) arg2 fullShare ((outR n).overlay Y (Net.chunkVal (regs X n rows))))
            -∗ wp frame (wpE (defs₀ (F := F)) Variants.none c none) E k K))
      ⊢ wp frame (wpE (defs₀ (F := F)) Variants.none c none) E (chunk arg1 arg2 n k) K := by
  iintro ⟨⟨H1, H2⟩, Hk⟩
  unfold chunk
  iapply (wp_loads c E arg1 X n K rows _)
  isplitl [H1]; · iexact H1
  iintro H1
  generalize Net.chunkVal (regs X n rows) = w
  unfold owns
  icases H2 with ⟨%f, %hf, H2⟩
  iapply (wp_load (defs := defs₀ (F := F)) Variants.none (c : Thread nD τ) none E (m := arg2) (f := f)
    (S := arg2.view.set) (View.setOn_subset_set _ _)) $$ H2
  iintro H2
  iapply (wp_store (defs := defs₀ (F := F)) Variants.none (c : Thread nD τ) none E (m := arg2) (r := outR n) (f := f)
    (S := arg2.view.set) ((View.setOn_subset_set _ _).trans (View.set_slice_subset _ _))) $$ H2
  iintro H2
  iapply Hk
  isplitl [H1]; · iexact H1
  iexists _
  isplitr
  swap; · iexact H2
  ipureintro
  subst hf
  funext y
  by_cases hy : y ∈ (outR n).set
  · obtain ⟨x, rfl⟩ := (outR n).exists_idx_of_mem hy
    exact (View.read_slice_write_emb (outR n) f w (Finset.mem_univ x)).trans ((outR n).overlay_emb _ w x).symm
  · exact (View.read_slice_write_of_not_mem (outR n) f w Finset.univ (by rwa [Rect.map_emb_univ])).trans
      ((outR n).overlay_of_not_mem _ w hy).symm

/-- The chunks in turn. -/
theorem wp_chunks (X : S256x1024.Idx → Elt F .f32) (K : PUnit → sProp 𝕄) : ∀ (cs : List (Fin 8)) (Y : S1x1024.Idx → Elt F .f32),
    iprop((owns (c : Thread nD τ) arg1 fullShare X ∗ owns (c : Thread nD τ) arg2 fullShare Y)
        ∗ ((owns (c : Thread nD τ) arg1 fullShare X ∗ owns (c : Thread nD τ) arg2 fullShare (left X cs Y)) -∗ K ⟨⟩))
      ⊢ wp frame (wpE (defs₀ (F := F)) Variants.none c none) E (chunks arg1 arg2 cs) K
  | [], Y => by
    iintro ⟨H, Hk⟩
    unfold chunks
    sl_steps
    iapply Hk
    iexact H
  | n :: cs, Y => by
    have ih := wp_chunks X K cs ((outR n).overlay Y (Net.chunkVal (regs X n rows)))
    iintro ⟨H, Hk⟩
    unfold chunks
    iapply (wp_chunk c E arg1 arg2 X Y n K _)
    isplitl [H]; · iexact H
    iintro H
    iapply ih
    isplitl [H]; · iexact H
    iexact Hk

end Cert.KernelIdeal.Body
-- ==== Proof.Frame.lean ====
/-
  The frame: the run from any memory, for any float values, with nothing said of the result. The result's window is
  forgotten, the input's keeps its block.
-/
module

public import proofs.«01_k».proof.Proof.BodyEqIdeal
public import proofs.«01_k».proof.Proof.Triple
public import proofs.«01_k».proof.Proof.Gen.KernelIdeal.Frame
public import Idealize.ShloMosaic.Lib.Pipeline.KitQuiescent

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's variants: none. -/
abbrev 𝒱₀ : Variants := Variants.none

/-- The chunks of the body. -/
abbrev all : List (Fin 8) := [0, 1, 2, 3, 4, 5, 6, 7]

/-- The input's block, with zeros past the array's end. -/
def xblk (c : Dev nD) (t : Fin cfg0.N) : S256x1024.Idx → Elt F .f32 :=
  win0_0.fill (grid0.coords t) (fun _ => Scalar.ofBits .f32 0#32) (iblk m c 0 t)

/-- The proof data: the input's buffer keeps its block, the result's is left at `out`. -/
def dats (out : (c : Dev nD) → Fin cfg0.N → S1x1024.Idx → Elt F .f32) (_ : Fin 1) (c : Dev nD) :
    Dat τ (Elt F) Unit ℕ (UR sig nD τ) ℕ cfg0 c where
  A w := V m c (Pipeline.arrRef spec0 w)
  after w t := match w with
    | ⟨0, _⟩ => xblk m c t
    | ⟨1, _⟩ => out c t
  Φ _ := Pipeline.ΦA spec0 c
  q _ := fullShare
  owed _ := 0

variable (out : (c : Dev nD) → Fin cfg0.N → S1x1024.Idx → Elt F .f32)

/-- The body finds the input's block in the input's buffer. -/
theorem before_0 (c : Dev nD) (t : Fin cfg0.N) (d) :
    (dats m out 0 c).before (0 : Fin 2) t d = win0_0.fill (grid0.coords t) d (iblk m c 0 t) := by
  unfold Dat.before; rw [if_pos (fetch0_0 t)]; rfl

theorem body_chunks (t : Fin cfg0.N) : bodyAt0 (F := F) t = Body.chunks (st0_0 t) (st0_1 t) all :=
  Body.body_eq _ _ _ _ _

/-- A program that is the chunks, on any two buffers. -/
theorem wp_of_eq (c : Dev nD) (E : Set ℕ) (arg1 : Memref sig .tc .vmem S256x1024 .f32) (arg2 : Memref sig .tc .vmem S1x1024 .f32) (cs : List (Fin 8))
    {p : Prog (TpuEff nD τ sig (Elt F) Λ₀ .tc) PUnit} (h : p = Body.chunks arg1 arg2 cs)
    (X : S256x1024.Idx → Elt F .f32) (Y : S1x1024.Idx → Elt F .f32) (K : PUnit → sProp 𝕄) :
    iprop((owns (c : Thread nD τ) arg1 fullShare X ∗ owns (c : Thread nD τ) arg2 fullShare Y)
        ∗ ((owns (c : Thread nD τ) arg1 fullShare X ∗ owns (c : Thread nD τ) arg2 fullShare (Body.left X cs Y)) -∗ K ⟨⟩))
      ⊢ wp frame (wpE (defs₀ (F := F)) 𝒱₀ c none) E p K := by
  subst h
  exact Body.wp_chunks c E _ _ X K cs Y

/-- The windows whose contents the frame says nothing of: the result's. -/
abbrev fgt : Fin 2 → Bool := ![false, true]

theorem frame_body (c : Dev nD) : BodyObligationLoose (dats m out 0 c) (defs₀ (F := F)) 𝒱₀ () Set.univ fgt := fun t => by
  rw [bigSep_W0, bigSep_W0]
  simp only [fgt, Matrix.cons_val_zero, Matrix.cons_val_one]
  rw [show (dats m out 0 c).Φ t.succ = (dats m out 0 c).Φ t.castSucc from rfl,
    show (dats m out 0 c).owesAt () t.succ = (dats m out 0 c).owesAt () t.castSucc from rfl]
  iintro ⟨HΦ, Ho, ⟨%d0, H0⟩, ⟨%Y, H1⟩⟩
  rw [before_0 m out c t d0]
  iapply (wp_of_eq (F := F) c Set.univ (st0_0 t) (st0_1 t) all (body_chunks t) (win0_0.fill (grid0.coords t) d0 (iblk m c 0 t)) Y _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
  · iexists _
    iexact H1

/-- The host line after the region writes the result only. -/
theorem sfx_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb ⊢
  by_contra h
  exact StableHlo.devRef_ne_of_ne h hb

set_option backward.isDefEq.respectTransparency.types false in
/-- Every run ends, with the argument as it was and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  Pipeline.θ_run_frame_around_T_forget cfgs (dats m fun _ _ _ => Scalar.ofBits .f32 0#32) 0 launch0 defs₀ 𝒱₀ fgt {main_v1} m ρ main
    (frame_body m _)
    (fun c => (dats m _ 0 c).share_full fun _ => rfl) (fun _ _ => rfl)
    (V0 m) [hostOps1] sfx_sub sfx_fresh sfx_keeps sfx_writes (hmain m 𝒱₀) (fun _ _ => rfl) (fun _ _ => rfl)
    (Q' := _)
    (hQ' := fun r h => ⟨fun c => (h.1.arr_in c 0 rfl).trans (V_main_arg0 m c), h.2⟩)

end Cert.KernelIdeal.Run
-- ==== Proof.FrameKernel.lean ====
/-
  The frame of the kernel as printed: its text is the idealized kernel's text, so its statement is that statement, at
  bits.
-/
module

public import proofs.«01_k».proof.Defs
public import proofs.«01_k».proof.Proof.Frame
public import proofs.«01_k».proof.Proof.Gen.Kernel

@[expose] public section

noncomputable section

namespace Cert.KernelIdeal.Run

open Idealize.ShloMosaic Idealize.SL.Sem

/-- The frame of the idealized kernel's text, at bits. -/
abbrev frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

theorem same_text : Cert.quiescent_Kernel = frameAtBits := by
  chain_rfl

theorem quiescent_kernel : Cert.quiescent_Kernel :=
  same_text.mpr fun m g _ => frame_run m g

theorem quiescent_kernelIdeal : Cert.quiescent_KernelIdeal :=
  fun m g _ => frame_run m g

end Cert.KernelIdeal.Run
-- ==== Proof.Sorting.lean ====
/-
  A bitonic network over a linear order: every stage permutes the values, and the order that the stages make is read off
  from their Boolean shadows (which values are above a threshold).
-/
module

public import Mathlib.Data.Multiset.Sort
public import Mathlib.Algebra.BigOperators.Group.Finset.Basic
public import Mathlib.Algebra.BigOperators.Intervals
public import Mathlib.Order.Interval.Finset.Nat
public import Mathlib.Tactic.Ring
public import Idealize.ShloMosaic.PureOps.Ideal

@[expose] public section

namespace Cert.Sorting

variable {α : Type} [LinearOrder α]

/-- One stage: positions `n` and `n + j`, where `n` has no bit `j`, are put in order, or in reverse order where `D`. -/
def stage (D : Nat → Bool) (j : Nat) (x : Nat → α) : Nat → α := fun n =>
  if n / j % 2 = 0 then (if D n then max (x n) (x (n + j)) else min (x n) (x (n + j)))
  else (if D n then min (x (n - j)) (x n) else max (x (n - j)) (x n))

/-- The direction of the blocks of `k`: every other one is in reverse order. -/
def dir (k n : Nat) : Bool := decide (n / k % 2 = 1)

/-- The stages of one merge, `2 ^ (r - 1)`, …, `1`. -/
def down : Nat → List Nat
  | 0 => []
  | r + 1 => 2 ^ r :: down r

/-- Stages in turn. -/
def run (k : Nat) (js : List Nat) (x : Nat → α) : Nat → α := js.foldl (fun x j => stage (dir k) j x) x

/-- The merges up to blocks of `2 ^ r`. -/
def sortTo : Nat → (Nat → α) → Nat → α
  | 0, x => x
  | r + 1, x => run (2 ^ (r + 1)) (down (r + 1)) (sortTo r x)

/-- The whole network: the last merge only down to blocks of 32. -/
def net (x : Nat → α) : Nat → α := run 256 [128, 64, 32] (sortTo 7 x)

/-! ### Blocks -/

theorem div_block {L : Nat} (c p i : Nat) (hi : i < L) : (p * L + i) / (L * c) = p / c := by
  rw [← Nat.div_div_eq_div_mul, Nat.mul_comm, Nat.mul_add_div (by omega), Nat.div_eq_of_lt hi, Nat.add_zero]

theorem dir_block {L c p i : Nat} (hi : i < L) : dir (L * c) (p * L + i) = dir c p := by
  unfold dir; rw [div_block c p i hi]

theorem stage_low {h c p i : Nat} (hi : i < h) (x : Nat → α) :
    stage (dir (2 * h * c)) h x (p * (2 * h) + i)
      = if dir c p then max (x (p * (2 * h) + i)) (x (p * (2 * h) + (h + i))) else min (x (p * (2 * h) + i)) (x (p * (2 * h) + (h + i))) := by
  have e : (p * (2 * h) + i) / h % 2 = 0 := by
    rw [show p * (2 * h) + i = h * (2 * p) + i by ring, Nat.mul_add_div (by omega), Nat.div_eq_of_lt hi]; omega
  unfold stage
  rw [if_pos e, dir_block (by omega), show p * (2 * h) + i + h = p * (2 * h) + (h + i) by ring]

theorem stage_high {h c p i : Nat} (hi : i < h) (x : Nat → α) :
    stage (dir (2 * h * c)) h x (p * (2 * h) + (h + i))
      = if dir c p then min (x (p * (2 * h) + i)) (x (p * (2 * h) + (h + i))) else max (x (p * (2 * h) + i)) (x (p * (2 * h) + (h + i))) := by
  have e : ¬ (p * (2 * h) + (h + i)) / h % 2 = 0 := by
    rw [show p * (2 * h) + (h + i) = h * (2 * p + 1) + i by ring, Nat.mul_add_div (by omega), Nat.div_eq_of_lt hi]; omega
  unfold stage
  rw [if_neg e, dir_block (by omega), show p * (2 * h) + (h + i) - h = p * (2 * h) + i by omega]

/-! ### The stages permute -/

section Perm
variable {M : Type} [AddCommMonoid M]

theorem sum_blocks (L N : Nat) (g : Nat → M) :
    ∑ n ∈ Finset.range (N * L), g n = ∑ p ∈ Finset.range N, ∑ i ∈ Finset.range L, g (p * L + i) := by
  induction N with
  | zero => simp
  | succ N ih => rw [Finset.sum_range_succ, ← ih, Nat.succ_mul, Finset.sum_range_add]

theorem sum_pairs (h N : Nat) (g : Nat → M) :
    ∑ n ∈ Finset.range (N * (2 * h)), g n
      = ∑ p ∈ Finset.range N, ∑ i ∈ Finset.range h, (g (p * (2 * h) + i) + g (p * (2 * h) + (h + i))) := by
  rw [sum_blocks]
  refine Finset.sum_congr rfl fun p _ => ?_
  rw [two_mul, Finset.sum_range_add, Finset.sum_add_distrib]

theorem sum_stage (f : α → M) (h c N : Nat) (x : Nat → α) :
    ∑ n ∈ Finset.range (N * (2 * h)), f (stage (dir (2 * h * c)) h x n) = ∑ n ∈ Finset.range (N * (2 * h)), f (x n) := by
  rw [sum_pairs, sum_pairs]
  refine Finset.sum_congr rfl fun p _ => Finset.sum_congr rfl fun i hi => ?_
  rw [stage_low (Finset.mem_range.mp hi), stage_high (Finset.mem_range.mp hi)]
  generalize x (p * (2 * h) + i) = a
  generalize x (p * (2 * h) + (h + i)) = b
  rcases le_total a b with H | H <;> split_ifs <;>
    simp only [max_eq_right H, max_eq_left H, min_eq_left H, min_eq_right H, add_comm (f b) (f a)]

theorem sum_run (f : α → M) (k n : Nat) : ∀ (js : List Nat) (x : Nat → α), (∀ j ∈ js, 2 * j ∣ k ∧ 2 * j ∣ n) →
    ∑ i ∈ Finset.range n, f (run k js x i) = ∑ i ∈ Finset.range n, f (x i)
  | [], _, _ => rfl
  | j :: js, x, hj => by
    obtain ⟨⟨c, hc⟩, ⟨N, hN⟩⟩ := hj j (List.mem_cons_self ..)
    refine (sum_run f k n js (stage (dir k) j x) fun i hi => hj i (List.mem_cons_of_mem _ hi)).trans ?_
    rw [hN, Nat.mul_comm, hc]
    exact sum_stage f j c N x

theorem mem_down {r j : Nat} (h : j ∈ down r) : 2 * j ∣ 2 ^ r := by
  induction r with
  | zero => simp [down] at h
  | succ r ih =>
    rcases List.mem_cons.mp h with rfl | h
    · exact ⟨1, by ring⟩
    · exact (ih h).trans ⟨2, by ring⟩

theorem sum_sortTo (f : α → M) (s : Nat) : ∀ (r : Nat), r ≤ s → ∀ x : Nat → α,
    ∑ i ∈ Finset.range (2 ^ s), f (sortTo r x i) = ∑ i ∈ Finset.range (2 ^ s), f (x i)
  | 0, _, _ => rfl
  | r + 1, hr, x => by
    refine (sum_run f _ _ (down (r + 1)) (sortTo r x) fun j hj => ?_).trans (sum_sortTo f s r (by omega) x)
    exact ⟨mem_down hj, (mem_down hj).trans (pow_dvd_pow 2 hr)⟩

theorem sum_net (f : α → M) (x : Nat → α) :
    ∑ i ∈ Finset.range 256, f (net x i) = ∑ i ∈ Finset.range 256, f (x i) := by
  refine (sum_run f 256 256 [128, 64, 32] (sortTo 7 x) ?_).trans (sum_sortTo f 8 7 (by omega) x)
  intro j hj
  simp only [List.mem_cons, List.mem_nil_iff, or_false] at hj
  rcases hj with rfl | rfl | rfl <;> decide

end Perm

/-! ### Boolean blocks -/

/-- The values of a block are one interval's, or all but one interval's. -/
def Cyc (L : Nat) (f : Nat → Bool) : Prop :=
  ∃ (u v : Nat) (e : Bool), ∀ i < L, f i = xor e (decide (u ≤ i ∧ i < v))

theorem Cyc.not {L : Nat} {f : Nat → Bool} (h : Cyc L f) : Cyc L fun i => !f i := by
  obtain ⟨u, v, e, h⟩ := h
  exact ⟨u, v, !e, fun i hi => by simp [h i hi]⟩

theorem Cyc.congr {L : Nat} {f g : Nat → Bool} (h : Cyc L f) (e : ∀ i < L, g i = f i) : Cyc L g := by
  obtain ⟨u, v, e', h⟩ := h
  exact ⟨u, v, e', fun i hi => (e i hi).trans (h i hi)⟩

/-- The half cleaner: both halves are of the class again, and one of them is constant. -/
def Clean (h : Nat) (f : Nat → Bool) : Prop :=
  Cyc h (fun i => f i && f (h + i)) ∧ Cyc h (fun i => f i || f (h + i))
    ∧ ((∀ i < h, (f i && f (h + i)) = false) ∨ ∀ i < h, (f i || f (h + i)) = true)

theorem Clean.not {h : Nat} {f : Nat → Bool} (H : Clean h fun i => !f i) : Clean h f := by
  obtain ⟨a, b, c⟩ := H
  refine ⟨b.not.congr fun i _ => by simp, a.not.congr fun i _ => by simp, ?_⟩
  rcases c with c | c
  · exact Or.inr fun i hi => by simpa [imp_iff_not_or] using c i hi
  · exact Or.inl fun i hi => by simpa [imp_iff_not_or] using c i hi

theorem clean_interval {h u v : Nat} {f : Nat → Bool} (H : ∀ i < 2 * h, f i = decide (u ≤ i ∧ i < v)) : Clean h f := by
  have lo : ∀ i < h, f i = decide (u ≤ i ∧ i < v) := fun i hi => H i (by omega)
  have hi' : ∀ i < h, f (h + i) = decide (u ≤ h + i ∧ h + i < v) := fun i hi => H (h + i) (by omega)
  refine ⟨⟨u, v - h, false, fun i hi => ?_⟩, ?_, ?_⟩
  · beta_reduce; rw [lo i hi, hi' i hi, Bool.eq_iff_iff]; simp; omega
  · by_cases h1 : v ≤ h
    · exact ⟨u, v, false, fun i hi => by beta_reduce; rw [lo i hi, hi' i hi, Bool.eq_iff_iff]; simp; omega⟩
    by_cases h2 : h ≤ u
    · exact ⟨u - h, v - h, false, fun i hi => by beta_reduce; rw [lo i hi, hi' i hi, Bool.eq_iff_iff]; simp; omega⟩
    exact ⟨v - h, u, true, fun i hi => by beta_reduce; rw [lo i hi, hi' i hi, Bool.eq_iff_iff]; simp; omega⟩
  · by_cases h1 : h < v ∧ u < h ∧ u ≤ v - h
    · exact Or.inr fun i hi => by beta_reduce; rw [lo i hi, hi' i hi]; simp; omega
    · exact Or.inl fun i hi => by beta_reduce; rw [lo i hi, hi' i hi, Bool.eq_false_iff]; simp; omega

theorem Cyc.clean {h : Nat} {f : Nat → Bool} (H : Cyc (2 * h) f) : Clean h f := by
  obtain ⟨u, v, e, H⟩ := H
  cases e
  · exact clean_interval (u := u) (v := v) fun i hi => by simp [H i hi]
  · exact Clean.not (clean_interval (u := u) (v := v) fun i hi => by simp [H i hi])

theorem asc_threshold {L : Nat} {f : Nat → Bool} (H : ∀ i i', i < i' → i' < L → f i ≤ f i') :
    ∃ u ≤ L, ∀ i < L, f i = decide (u ≤ i) := by
  induction L with
  | zero => exact ⟨0, le_rfl, fun i hi => absurd hi (by omega)⟩
  | succ L ih =>
    obtain ⟨u, hu, h⟩ := ih fun i i' a b => H i i' a (by omega)
    rcases hL : f L with _ | _
    · refine ⟨L + 1, le_rfl, fun i hi => ?_⟩
      rcases Nat.lt_or_eq_of_le (Nat.lt_succ_iff.mp hi) with h' | rfl
      · have := H i L h' (by omega)
        rw [hL] at this
        rw [show f i = false from Bool.eq_false_iff.mpr fun e => by rw [e] at this; exact absurd this (by decide)]
        simp; omega
      · rw [hL]; simp
    · refine ⟨u, by omega, fun i hi => ?_⟩
      rcases Nat.lt_or_eq_of_le (Nat.lt_succ_iff.mp hi) with h' | rfl
      · exact h i h'
      · rw [hL]; simp; omega

theorem desc_threshold {L : Nat} {f : Nat → Bool} (H : ∀ i i', i < i' → i' < L → f i' ≤ f i) :
    ∃ v, ∀ i < L, f i = decide (i < v) := by
  obtain ⟨u, -, h⟩ := asc_threshold (L := L) (f := fun i => !f i) fun i i' a b => by
    have := H i i' a b
    revert this
    cases f i <;> cases f i' <;> decide
  refine ⟨u, fun i hi => ?_⟩
  have := h i hi
  rw [← Bool.not_inj_iff, this, Bool.eq_iff_iff]; simp

/-! ### The order -/

/-- Two values in the order of direction `d`. -/
def Ord (d a b : Bool) : Prop := if d then b ≤ a else a ≤ b

theorem Ord.clean_low : ∀ d a b a' b' : Bool, (a && b) = false → (a' && b') = false →
    Ord d (if d then max a b else min a b) (if d then min a' b' else max a' b') := by unfold Ord; decide

theorem Ord.clean_high : ∀ d a b a' b' : Bool, (a || b) = true → (a' || b') = true →
    Ord d (if d then max a b else min a b) (if d then min a' b' else max a' b') := by unfold Ord; decide

theorem Ord.pairs : ∀ d a b a' b' : Bool, (Ord d a a' ∧ Ord d a b' ∧ Ord d b a' ∧ Ord d b b') →
    Ord d (if d then max a b else min a b) (if d then max a' b' else min a' b')
    ∧ Ord d (if d then max a b else min a b) (if d then min a' b' else max a' b')
    ∧ Ord d (if d then min a b else max a b) (if d then max a' b' else min a' b')
    ∧ Ord d (if d then min a b else max a b) (if d then min a' b' else max a' b') := by unfold Ord; decide

/-- Every block of `j` is of the class, and the blocks of `j` within a block of `k` are in its order. -/
def Inv (k j : Nat) (b : Nat → Bool) : Prop :=
  (∀ p, Cyc j fun i => b (p * j + i)) ∧
    ∀ p q i i', p < q → i < j → i' < j → (p * j + i) / k = (q * j + i') / k → Ord (dir k (p * j + i)) (b (p * j + i)) (b (q * j + i'))

theorem Inv.step {h c : Nat} {b : Nat → Bool} (H : Inv (2 * h * c) (2 * h) b) :
    Inv (2 * h * c) h (stage (dir (2 * h * c)) h b) := by
  obtain ⟨hC, hO⟩ := H
  have clean := fun p => (hC p).clean
  have lo : ∀ p i, 2 * p * h + i = p * (2 * h) + i := fun p i => by ring
  have hi : ∀ p i, (2 * p + 1) * h + i = p * (2 * h) + (h + i) := fun p i => by ring
  refine ⟨fun p => ?_, fun p q i i' hpq hi1 hi2 => ?_⟩
  · rcases Nat.even_or_odd' p with ⟨p, rfl | rfl⟩
    · cases hd : dir c p
      · exact (clean p).1.congr fun i h' => by rw [lo, stage_low h', hd]; rfl
      · exact (clean p).2.1.congr fun i h' => by rw [lo, stage_low h', hd]; rfl
    · cases hd : dir c p
      · exact (clean p).2.1.congr fun i h' => by rw [hi, stage_high h', hd]; rfl
      · exact (clean p).1.congr fun i h' => by rw [hi, stage_high h', hd]; rfl
  · have key : ∀ p q, p < q → p / c = q / c → ∀ s s' t t', s < 2 * h → t < 2 * h → s' < 2 * h → t' < 2 * h →
        Ord (dir c p) (b (p * (2 * h) + s)) (b (q * (2 * h) + t)) ∧ Ord (dir c p) (b (p * (2 * h) + s)) (b (q * (2 * h) + t'))
        ∧ Ord (dir c p) (b (p * (2 * h) + s')) (b (q * (2 * h) + t)) ∧ Ord (dir c p) (b (p * (2 * h) + s')) (b (q * (2 * h) + t')) := by
      intro p q hpq hc s s' t t' h1 h2 h3 h4
      have := fun s t (h1 : s < 2 * h) (h2 : t < 2 * h) => hO p q s t hpq h1 h2 (by rw [div_block _ _ _ h1, div_block _ _ _ h2, hc])
      refine ⟨?_, ?_, ?_, ?_⟩
      · have := this s t h1 h2; rwa [dir_block h1] at this
      · have := this s t' h1 h4; rwa [dir_block h1] at this
      · have := this s' t h3 h2; rwa [dir_block h3] at this
      · have := this s' t' h3 h4; rwa [dir_block h3] at this
    rcases Nat.even_or_odd' p with ⟨p, rfl | rfl⟩ <;> rcases Nat.even_or_odd' q with ⟨q, rfl | rfl⟩ <;>
      simp only [lo, hi] <;> rw [dir_block (by omega), div_block _ _ _ (by omega), div_block _ _ _ (by omega)] <;> intro hc <;>
      simp only [stage_low hi1, stage_low hi2, stage_high hi1, stage_high hi2]
    all_goals
      by_cases e : p = q
      · first
          | (exfalso; omega)
          | (subst e
             rcases (clean p).2.2 with cl | cl
             · exact Ord.clean_low _ _ _ _ _ (cl i hi1) (cl i' hi2)
             · exact Ord.clean_high _ _ _ _ _ (cl i hi1) (cl i' hi2))
      · have k := key p q (by omega) hc i (h + i) i' (h + i') (by omega) (by omega) (by omega) (by omega)
        have d : dir c q = dir c p := by unfold dir; rw [hc]
        rw [d]
        obtain ⟨k1, k2, k3, k4⟩ := Ord.pairs _ _ _ _ _ k
        assumption

theorem Inv.start {L : Nat} {b : Nat → Bool} (H : Inv L 1 b) : Inv (2 * L) (2 * L) b := by
  obtain ⟨-, hO⟩ := H
  have hO : ∀ n n', n < n' → n / L = n' / L → Ord (dir L n) (b n) (b n') := fun n n' h e => by
    simpa using hO n n' 0 0 h (by omega) (by omega) (by simpa using e)
  refine ⟨fun p => ?_, fun p q i i' hpq h1 h2 e => ?_⟩
  · have d0 : ∀ i < L, (p * (2 * L) + i) / L = 2 * p := fun i hi => by
      have := div_block 1 (2 * p) i hi
      rwa [Nat.mul_one, Nat.div_one, show 2 * p * L + i = p * (2 * L) + i by ring] at this
    have d1 : ∀ i < L, (p * (2 * L) + (L + i)) / L = 2 * p + 1 := fun i hi => by
      have := div_block 1 (2 * p + 1) i hi
      rwa [Nat.mul_one, Nat.div_one, show (2 * p + 1) * L + i = p * (2 * L) + (L + i) by ring] at this
    obtain ⟨u, hu, h0⟩ := asc_threshold (L := L) (f := fun i => b (p * (2 * L) + i)) fun i i' h h' => by
      have := hO (p * (2 * L) + i) (p * (2 * L) + i') (by omega) (by rw [d0 i (by omega), d0 i' h'])
      unfold dir Ord at this
      rw [d0 i (by omega)] at this
      simpa using this
    obtain ⟨v, h1⟩ := desc_threshold (L := L) (f := fun i => b (p * (2 * L) + (L + i))) fun i i' h h' => by
      have := hO (p * (2 * L) + (L + i)) (p * (2 * L) + (L + i')) (by omega) (by rw [d1 i (by omega), d1 i' h'])
      unfold dir Ord at this
      rw [d1 i (by omega)] at this
      simpa [Nat.add_mod] using this
    refine ⟨u, L + v, false, fun i hi => ?_⟩
    beta_reduce
    rcases Nat.lt_or_ge i L with h | h
    · rw [show b (p * (2 * L) + i) = _ from h0 i h, Bool.eq_iff_iff]; simp; omega
    · obtain ⟨i, rfl⟩ := Nat.exists_eq_add_of_le h
      rw [show b (p * (2 * L) + (L + i)) = _ from h1 i (by omega), Bool.eq_iff_iff]; simp; omega
  · have := div_block 1 p i h1
    have := div_block 1 q i' h2
    simp only [Nat.mul_one, Nat.div_one] at *
    omega

theorem Inv.run {k : Nat} : ∀ (r : Nat) {b : Nat → Bool}, 2 ^ r ∣ k → Inv k (2 ^ r) b → Inv k 1 (run k (down r) b)
  | 0, _, _, H => H
  | r + 1, b, ⟨c, hc⟩, H => by
    have e : k = 2 * 2 ^ r * c := by rw [hc]; ring
    refine Inv.run r (b := stage (dir k) (2 ^ r) b) ⟨2 * c, by rw [e]; ring⟩ ?_
    rw [show 2 ^ (r + 1) = 2 * 2 ^ r by ring] at H
    rw [e] at H ⊢
    exact H.step

theorem Inv.sortTo (b : Nat → Bool) : ∀ r : Nat, Inv (2 ^ r) 1 (sortTo r b)
  | 0 => ⟨fun p => ⟨0, 0, b p, fun i hi => by
      obtain rfl : i = 0 := by omega
      simp [Sorting.sortTo]⟩, fun p q i i' h1 h2 h3 h => by simp at h; omega⟩
  | r + 1 => by
    have := (Inv.sortTo b r).start
    rw [show 2 * 2 ^ r = 2 ^ (r + 1) by ring] at this
    exact Inv.run (r + 1) (dvd_refl _) this

theorem Inv.net (b : Nat → Bool) : Inv 256 32 (net b) :=
  Inv.step (h := 32) (c := 4) (Inv.step (h := 64) (c := 2) (Inv.step (h := 128) (c := 1) (Inv.start (Inv.sortTo b 7))))

/-! ### The Boolean shadow -/

/-- Which values are above the threshold. -/
def above (c : α) (x : Nat → α) : Nat → Bool := fun n => decide (c < x n)

theorem above_stage (c : α) (D : Nat → Bool) (j : Nat) (x : Nat → α) : above c (stage D j x) = stage D j (above c x) := by
  funext n
  have mx : ∀ a b : α, decide (c < max a b) = max (decide (c < a)) (decide (c < b)) := fun a b => by
    rw [Bool.eq_iff_iff]; simp [lt_max_iff]
  have mn : ∀ a b : α, decide (c < min a b) = min (decide (c < a)) (decide (c < b)) := fun a b => by
    rw [Bool.eq_iff_iff]; simp [lt_min_iff]
  unfold above stage
  split_ifs <;> first | exact mx _ _ | exact mn _ _

theorem above_run (c : α) (k : Nat) : ∀ (js : List Nat) (x : Nat → α), above c (run k js x) = run k js (above c x)
  | [], _ => rfl
  | j :: js, x => (above_run c k js (stage (dir k) j x)).trans (congrArg (run k js) (above_stage c _ j x))

theorem above_sortTo (c : α) : ∀ (r : Nat) (x : Nat → α), above c (sortTo r x) = sortTo r (above c x)
  | 0, _ => rfl
  | r + 1, x => (above_run c _ _ _).trans (congrArg (run _ _) (above_sortTo c r x))

theorem above_net (c : α) (x : Nat → α) : above c (net x) = net (above c x) :=
  (above_run c _ _ _).trans (congrArg (run _ _) (above_sortTo c 7 x))

/-- After the network every value of a block of 32 is at most every value of a later one. -/
theorem net_le (x : Nat → α) {n m : Nat} (h : n / 32 < m / 32) (hm : m < 256) : net x n ≤ net x m := by
  by_contra hlt
  have hlt := not_le.mp hlt
  have H := (Inv.net (above (net x m) x)).2 (n / 32) (m / 32) (n % 32) (m % 32) h (Nat.mod_lt _ (by omega)) (Nat.mod_lt _ (by omega))
    (by omega)
  rw [Nat.div_add_mod', Nat.div_add_mod', ← above_net] at H
  have hd : dir 256 n = false := by unfold dir; rw [decide_eq_false_iff_not]; omega
  rw [hd] at H
  have a : above (net x m) (net x) n = true := decide_eq_true hlt
  have b : above (net x m) (net x) m = false := by unfold above; simp
  rw [a, b] at H
  exact absurd H (by unfold Ord; decide)

/-! ### The trimmed sum -/

/-- The values of positions `a` to `b - 1`. -/
def part (x : Nat → α) (a b : Nat) : Multiset α := (Finset.Ico a b).val.map x

theorem sort_add (s t : Multiset α) (h : ∀ a ∈ s, ∀ b ∈ t, a ≤ b) :
    (s + t).sort (· ≤ ·) = s.sort (· ≤ ·) ++ t.sort (· ≤ ·) := by
  refine List.Perm.eq_of_pairwise' (r := (· ≤ ·)) (Multiset.pairwise_sort _ _) ?_ ?_
  · refine List.pairwise_append.mpr ⟨Multiset.pairwise_sort _ _, Multiset.pairwise_sort _ _, fun a ha b hb => ?_⟩
    exact h a ((Multiset.mem_sort _).mp ha) b ((Multiset.mem_sort _).mp hb)
  · refine Multiset.coe_eq_coe.mp ?_
    rw [Multiset.sort_eq, ← Multiset.coe_add, Multiset.sort_eq, Multiset.sort_eq]

theorem part_add (x : Nat → α) {a b c : Nat} (h : a ≤ b) (h' : b ≤ c) : part x a c = part x a b + part x b c := by
  unfold part
  rw [← Multiset.map_add]
  congr 1
  rw [← Finset.Ico_union_Ico_eq_Ico h h', ← Finset.disjUnion_eq_union _ _ (Finset.Ico_disjoint_Ico_consecutive a b c)]
  rfl

/-- Two arrangements of the same 256 values, one in order and one in order by blocks of 32, have the same values in the
    middle six blocks. -/
theorem part_eq {y z : Nat → α} (hy : ∀ n m, n / 32 < m / 32 → m < 256 → y n ≤ y m)
    (hz : ∀ n m, n / 32 < m / 32 → m < 256 → z n ≤ z m) (e : part y 0 256 = part z 0 256) : part y 32 224 = part z 32 224 := by
  have mem : ∀ (x : Nat → α) (a b : Nat) (v), v ∈ part x a b → ∃ n, a ≤ n ∧ n < b ∧ x n = v := by
    intro x a b v hv
    obtain ⟨n, hn, rfl⟩ := Multiset.mem_map.mp hv
    have := Finset.mem_Ico.mp (Finset.mem_val.mp hn)
    exact ⟨n, this.1, this.2, rfl⟩
  have split : ∀ x : Nat → α, (∀ n m, n / 32 < m / 32 → m < 256 → x n ≤ x m) → (part x 0 256).sort (· ≤ ·)
      = (part x 0 32).sort (· ≤ ·) ++ ((part x 32 224).sort (· ≤ ·) ++ (part x 224 256).sort (· ≤ ·)) := by
    intro x hx
    rw [part_add x (a := 0) (b := 32) (c := 256) (by omega) (by omega), sort_add, part_add x (a := 32) (b := 224) (c := 256) (by omega) (by omega), sort_add]
    · intro a ha b hb
      obtain ⟨n, h1, h2, rfl⟩ := mem _ _ _ _ ha
      obtain ⟨m, h3, h4, rfl⟩ := mem _ _ _ _ hb
      exact hx n m (by omega) (by omega)
    · intro a ha b hb
      obtain ⟨n, h1, h2, rfl⟩ := mem _ _ _ _ ha
      obtain ⟨m, h3, h4, rfl⟩ := mem _ _ _ _ hb
      exact hx n m (by omega) (by omega)
  have len : ∀ (x : Nat → α) (a b : Nat), ((part x a b).sort (· ≤ ·)).length = b - a := fun x a b => by
    rw [Multiset.length_sort, part, Multiset.card_map]; simp
  have h := congrArg (fun s : Multiset α => s.sort (· ≤ ·)) e
  simp only [split y hy, split z hz] at h
  have h := (List.append_inj h (by rw [len, len])).2
  have h := (List.append_inj h (by rw [len, len])).1
  rw [← Multiset.sort_eq (part y 32 224) (· ≤ ·), h, Multiset.sort_eq]

theorem part_eq_sum (x : Nat → α) (n : Nat) : part x 0 n = ∑ i ∈ Finset.range n, ({x i} : Multiset α) := by
  induction n with
  | zero => rfl
  | succ n ih =>
    rw [part_add x (b := n) (by omega) (by omega), ih, Finset.sum_range_succ]
    congr 1
    unfold part
    rw [Nat.Ico_succ_singleton]
    rfl

/-- The trimmed sum of the network's result is the trimmed sum of any sorted arrangement of the values. -/
theorem trimmed {M : Type} [AddCommMonoid M] (f : α → M) (x z : Nat → α) (hz : ∀ n m, n ≤ m → m < 256 → z n ≤ z m)
    (e : part x 0 256 = part z 0 256) :
    ∑ n ∈ Finset.Ico 32 224, f (net x n) = ∑ n ∈ Finset.Ico 32 224, f (z n) := by
  have h : part (net x) 32 224 = part z 32 224 :=
    part_eq (fun n m h hm => net_le x h hm) (fun n m h hm => hz n m (by omega) hm)
      (((part_eq_sum _ _).trans (sum_net (fun a => ({a} : Multiset α)) x)).trans ((part_eq_sum _ _).symm.trans e))
  have := congrArg (fun s : Multiset α => (s.map f).sum) h
  simp only [part, Multiset.map_map] at this
  exact this

end Cert.Sorting
-- ==== Proof.Lanes.lean ====
/-
  One lane of the kernel's network, over the extended reals: the 256 values of a lane, read in the network's order, go
  through the stages of `Sorting.net`.
-/
module

public import proofs.«01_k».proof.Proof.Net
public import proofs.«01_k».proof.Proof.Sorting
public import Idealize.ShloMosaic.PureOps.Ideal.Laws
public import Idealize.ShloMosaic.PureOps.IdealRules
public import Idealize.ShloMosaic.Lib.Pointwise.Tactic
public import Idealize.ShloMosaic.Lib.Pointwise.Reduce
public import Idealize.ShloMosaic.Lib.Pointwise.Reshape
public import Mathlib.Tactic.IntervalCases

@[expose] public section

noncomputable section

namespace Cert.Lanes

open Idealize.ShloMosaic Cert.Net Cert.Sorting

/-- The sublane that holds the block `o` of 32 positions. -/
def sl (o : Nat) : Fin 8 := ⟨4 * (o % 2) + o / 2 % 2 + 2 * (o / 4 % 2), by omega⟩

/-- The sublane that a rotation by `n` brings to sublane `s`. -/
def rot (n : BitVec 32) (s : Fin 8) : Fin 8 := ⟨(s.val + 8 - n.toNat % 8) % 8, Nat.mod_lt _ (by omega)⟩

/-- The value at position `n` of lane `l`, negated where `g` says so of its sublane. -/
def X (g : Fin 8 → Bool) (v : List (Reg Ideal)) (l : Fin 128) (n : Nat) : EReal :=
  if g (sl (n / 32)) then -(reg v (n % 32) (ix2 (sl (n / 32)) l) : EReal) else reg v (n % 32) (ix2 (sl (n / 32)) l)

theorem reg_tab (f : Nat → Reg Ideal) (a : Nat) (h : a < 32) : reg (tab f) a = f a := by
  interval_cases a <;> rfl

theorem wide_apply (b : IVec S8x1 1) (s : Fin 8) (l : Fin 128) : wide b (ix2 s l) = b (ix2 s 0) := by
  unfold wide
  rw [shapeCast_id]
  unfold broadcastTo
  congr 1
  funext a
  match a with
  | ⟨0, _⟩ => rfl
  | ⟨1, _⟩ => rfl

/-! ### Registers -/

/-- What registers `a` and `a ^^^ j` are in the network's order. -/
theorem cross_facts : ∀ j ∈ [1, 2, 4, 8, 16], ∀ n < 256,
    (n / j % 2 = 0 → Nat.beq (Nat.land (n % 32) j) 0 = true ∧ Nat.xor (n % 32) j = (n + j) % 32 ∧ (n + j) / 32 = n / 32 ∧ n + j < 256)
    ∧ (¬ n / j % 2 = 0 → Nat.beq (Nat.land (n % 32) j) 0 = false ∧ Nat.xor (n % 32) j = (n - j) % 32 ∧ (n - j) / 32 = n / 32 ∧ n - j < 256) := by
  decide +kernel

theorem cross_X {j k : Nat} {g : Fin 8 → Bool} {D : Nat → Bool} {v : List (Reg Ideal)} {l : Fin 128} {x : Nat → EReal}
    (hj : j ∈ [1, 2, 4, 8, 16])
    (hD : ∀ n < 256, D n = xor (!(Nat.beq (Nat.land (n % 32) k) 0)) (g (sl (n / 32))))
    (h : ∀ n < 256, X g v l n = x n) : ∀ n < 256, X g (cross j k v) l n = stage D j x n := by
  intro n hn
  obtain ⟨f0, f1⟩ := cross_facts j hj n hn
  have hD := hD n hn
  unfold stage
  by_cases e : n / j % 2 = 0
  · obtain ⟨b, hx, ho, hlt⟩ := f0 e
    rw [if_pos e, ← h n hn, ← h (n + j) hlt, hD]
    unfold X
    rw [ho, reg_tab _ _ (Nat.mod_lt _ (by omega)), b, hx]
    generalize reg v (n % 32) = p
    generalize reg v ((n + j) % 32) = q
    generalize sl (n / 32) = s
    cases g s <;> cases Nat.beq (Nat.land (n % 32) k) 0
    · exact rfl
    · exact rfl
    · exact (EReal.min_neg_neg _ _).symm
    · exact (EReal.max_neg_neg _ _).symm
  · obtain ⟨b, hx, ho, hlt⟩ := f1 e
    rw [if_neg e, ← h n hn, ← h (n - j) hlt, hD]
    unfold X
    rw [ho, reg_tab _ _ (Nat.mod_lt _ (by omega)), b, hx]
    generalize reg v (n % 32) = p
    generalize reg v ((n - j) % 32) = q
    generalize sl (n / 32) = s
    cases g s <;> cases Nat.beq (Nat.land (n % 32) k) 0
    · exact rfl
    · exact rfl
    · exact (EReal.max_neg_neg _ _).symm
    · exact (EReal.min_neg_neg _ _).symm

/-! ### Sublanes -/

theorem rotate_apply (n : BitVec 32) (x : Reg Ideal) (s : Fin 8) (l : Fin 128) :
    dynamicRotate 0 n none x rotOK (ix2 s l) = x (ix2 (rot n s) l) := by
  refine congrArg x (funext fun a => ?_)
  match a with
  | ⟨0, _⟩ => rfl
  | ⟨1, _⟩ => rfl

/-- Positions `j` apart are the sublanes `t` apart. -/
def Apart (t d : BitVec 32) (j : Nat) : Prop := ∀ n < 256,
    (n / j % 2 = 0 → bit t (ix2 (sl (n / 32)) 0) = 0#1 ∧ (n + j) % 32 = n % 32 ∧ sl ((n + j) / 32) = rot d (sl (n / 32)) ∧ n + j < 256)
    ∧ (¬ n / j % 2 = 0 → bit t (ix2 (sl (n / 32)) 0) = 1#1 ∧ (n - j) % 32 = n % 32 ∧ sl ((n - j) / 32) = rot t (sl (n / 32)) ∧ n - j < 256)

instance (t d : BitVec 32) (j : Nat) : Decidable (Apart t d j) := by unfold Apart; infer_instance

theorem apart_32 : Apart 4#32 4#32 32 := by decide +kernel
theorem apart_64 : Apart 1#32 7#32 64 := by decide +kernel
theorem apart_128 : Apart 2#32 6#32 128 := by decide +kernel

theorem across_X {t d : BitVec 32} {j : Nat} {g : Fin 8 → Bool} {D : Nat → Bool} {v : List (Reg Ideal)} {l : Fin 128} {x : Nat → EReal}
    (ha : Apart t d j) (hD : ∀ n < 256, D n = g (sl (n / 32)))
    (hg : ∀ n < 256, (n / j % 2 = 0 → g (sl ((n + j) / 32)) = g (sl (n / 32))) ∧ (¬ n / j % 2 = 0 → g (sl ((n - j) / 32)) = g (sl (n / 32))))
    (h : ∀ n < 256, X g v l n = x n) : ∀ n < 256, X g (across t d v) l n = stage D j x n := by
  intro n hn
  obtain ⟨f0, f1⟩ := ha n hn
  obtain ⟨g0, g1⟩ := hg n hn
  have hD := hD n hn
  unfold stage
  by_cases e : n / j % 2 = 0
  · obtain ⟨b, hx, ho, hlt⟩ := f0 e
    rw [if_pos e, ← h n hn, ← h (n + j) hlt, hD]
    unfold X
    rw [g0 e, hx, reg_tab _ _ (Nat.mod_lt _ (by omega)), ho]
    unfold select
    rw [wide_apply, b]
    generalize reg v (n % 32) = p
    have r := rotate_apply d p (sl (n / 32)) l
    generalize sl (n / 32) = s at r ⊢
    rw [← r]
    cases g s
    · exact rfl
    · exact (EReal.max_neg_neg _ _).symm
  · obtain ⟨b, hx, ho, hlt⟩ := f1 e
    rw [if_neg e, ← h n hn, ← h (n - j) hlt, hD]
    unfold X
    rw [g1 e, hx, reg_tab _ _ (Nat.mod_lt _ (by omega)), ho]
    unfold select
    rw [wide_apply, b]
    generalize reg v (n % 32) = p
    have r := rotate_apply t p (sl (n / 32)) l
    generalize sl (n / 32) = s at r ⊢
    rw [← r]
    cases g s
    · exact max_comm _ _
    · exact ((EReal.min_neg_neg _ _).trans (congrArg _ (max_comm _ _))).symm

/-! ### Signs -/

theorem neg_one : (Scalar.ofBits .f32 0xBF800000#32 : Ideal .f32) = (-1 : EReal) := IdealRules.sign_bit.ideal_negOnePat .f32

theorem flip_X {b : IVec S8x1 1} {g g' : Fin 8 → Bool} {v : List (Reg Ideal)} {l : Fin 128} {x : Nat → EReal}
    (hg : ∀ s, g s = xor (g' s) (decide (b (ix2 s 0) = 1#1)))
    (h : ∀ n < 256, X g' v l n = x n) : ∀ n < 256, X g (flip b v) l n = x n := by
  intro n hn
  rw [← h n hn]
  unfold X
  rw [reg_tab _ _ (Nat.mod_lt _ (by omega)), hg]
  generalize reg v (n % 32) = p
  generalize sl (n / 32) = s
  have m : ∀ (c : IVec S8x1 1), broadcastTo S8x128 (select c (broadcast S8x1 (Scalar.ofBits .f32 0xBF800000#32))
        (broadcast S8x1 (Scalar.ofBits .f32 0x3F800000#32)) : FVec Ideal S8x1 .f32) bcastOK (ix2 s l)
      = if c (ix2 s 0) = 1#1 then (-1 : EReal) else 1 := by
    intro c
    have e := wide_apply c s l
    unfold wide at e
    rw [shapeCast_id] at e
    rw [← e, ← neg_one, ← Ideal.ofBits_one_f32]
    rfl
  change (if xor (g' s) (decide (b (ix2 s 0) = 1#1)) = true
      then -((p (ix2 s l) : EReal) * (broadcastTo S8x128 (select b (broadcast S8x1 (Scalar.ofBits .f32 0xBF800000#32))
        (broadcast S8x1 (Scalar.ofBits .f32 0x3F800000#32)) : FVec Ideal S8x1 .f32) bcastOK (ix2 s l) : EReal))
      else (p (ix2 s l) : EReal) * (broadcastTo S8x128 (select b (broadcast S8x1 (Scalar.ofBits .f32 0xBF800000#32))
        (broadcast S8x1 (Scalar.ofBits .f32 0x3F800000#32)) : FVec Ideal S8x1 .f32) bcastOK (ix2 s l) : EReal)) = _
  rw [m]
  by_cases c : b (ix2 s 0) = 1#1 <;> cases g' s <;> simp [c]

/-! ### The network -/

abbrev g0 : Fin 8 → Bool := fun _ => false
abbrev g1 : Fin 8 → Bool := fun s => decide (bit 4#32 (ix2 s 0) = 1#1)
abbrev g2 : Fin 8 → Bool := fun s => decide (bit 1#32 (ix2 s 0) = 1#1)
abbrev g3 : Fin 8 → Bool := fun s => decide (bit 2#32 (ix2 s 0) = 1#1)

theorem fiveWays_X {k : Nat} {g : Fin 8 → Bool} {D : Nat → Bool} {v : List (Reg Ideal)} {l : Fin 128} {x : Nat → EReal}
    (hD : ∀ n < 256, D n = xor (!(Nat.beq (Nat.land (n % 32) k) 0)) (g (sl (n / 32))))
    (h : ∀ n < 256, X g v l n = x n) :
    ∀ n < 256, X g (fiveWays k v) l n = stage D 1 (stage D 2 (stage D 4 (stage D 8 (stage D 16 x)))) n :=
  cross_X (by decide) hD (cross_X (by decide) hD (cross_X (by decide) hD (cross_X (by decide) hD (cross_X (by decide) hD h))))

theorem network_X (v : List (Reg Ideal)) (l : Fin 128) : ∀ n < 256, X g0 (network v) l n = net (X g0 v l) n := by
  have d2 : ∀ n < 256, dir 2 n = xor (!(Nat.beq (Nat.land (n % 32) 2) 0)) (g0 (sl (n / 32))) := by decide +kernel
  have d4 : ∀ n < 256, dir 4 n = xor (!(Nat.beq (Nat.land (n % 32) 4) 0)) (g0 (sl (n / 32))) := by decide +kernel
  have d8 : ∀ n < 256, dir 8 n = xor (!(Nat.beq (Nat.land (n % 32) 8) 0)) (g0 (sl (n / 32))) := by decide +kernel
  have d16 : ∀ n < 256, dir 16 n = xor (!(Nat.beq (Nat.land (n % 32) 16) 0)) (g0 (sl (n / 32))) := by decide +kernel
  have d32 : ∀ n < 256, dir 32 n = xor (!(Nat.beq (Nat.land (n % 32) 32) 0)) (g1 (sl (n / 32))) := by decide +kernel
  have d64 : ∀ n < 256, dir 64 n = xor (!(Nat.beq (Nat.land (n % 32) 64) 0)) (g2 (sl (n / 32))) := by decide +kernel
  have d64' : ∀ n < 256, dir 64 n = g2 (sl (n / 32)) := by decide +kernel
  have d128 : ∀ n < 256, dir 128 n = xor (!(Nat.beq (Nat.land (n % 32) 128) 0)) (g3 (sl (n / 32))) := by decide +kernel
  have d128' : ∀ n < 256, dir 128 n = g3 (sl (n / 32)) := by decide +kernel
  have d256 : ∀ n < 256, dir 256 n = g0 (sl (n / 32)) := by decide +kernel
  have p1 := cross_X (v := v) (l := l) (x := X g0 v l) (j := 1) (by decide) d2 fun _ _ => rfl
  have p2 := cross_X (j := 1) (by decide) d4 (cross_X (j := 2) (by decide) d4 p1)
  have p3 := cross_X (j := 1) (by decide) d8 (cross_X (j := 2) (by decide) d8 (cross_X (j := 4) (by decide) d8 p2))
  have p4 := cross_X (j := 1) (by decide) d16 (cross_X (j := 2) (by decide) d16 (cross_X (j := 4) (by decide) d16 (cross_X (j := 8) (by decide) d16 p3)))
  have p5 := fiveWays_X d32 (flip_X (b := bit 4#32) (g := g1) (by decide +kernel) p4)
  have p6 := fiveWays_X d64 (across_X apart_32 d64' (by decide +kernel)
    (flip_X (b := xori (bit 4#32) (bit 1#32)) (g := g2) (by decide +kernel) p5))
  have p7 := fiveWays_X d128 (across_X apart_32 d128' (by decide +kernel) (across_X apart_64 d128' (by decide +kernel)
    (flip_X (b := xori (bit 1#32) (bit 2#32)) (g := g3) (by decide +kernel) p6)))
  have p8 := across_X apart_32 d256 (fun _ _ => ⟨fun _ => rfl, fun _ => rfl⟩) (across_X apart_64 d256 (fun _ _ => ⟨fun _ => rfl, fun _ => rfl⟩)
    (across_X apart_128 d256 (fun _ _ => ⟨fun _ => rfl, fun _ => rfl⟩)
      (flip_X (b := bit 2#32) (g := g0) (by decide +kernel) p7)))
  exact p8

/-! ### The chunk's value -/

theorem treeSum_apply (v : List (Reg Ideal)) (i : S8x128.Idx) : ∀ (n a : Nat),
    (treeSum n a v i : EReal) = ∑ b ∈ Finset.range (2 ^ n), (reg v (a * 2 ^ n + b) i : EReal)
  | 0, a => by simp [treeSum]
  | n + 1, a => by
    refine (congrArg₂ (fun p q : EReal => p + q) (treeSum_apply v i n (2 * a)) (treeSum_apply v i n (2 * a + 1))).trans ?_
    rw [pow_succ, Nat.mul_two, Finset.sum_range_add]
    refine congrArg₂ (· + ·) (Finset.sum_congr rfl fun b _ => ?_) (Finset.sum_congr rfl fun b _ => ?_)
    · rw [show 2 * a * 2 ^ n + b = a * (2 ^ n + 2 ^ n) + b by ring]
    · rw [show (2 * a + 1) * 2 ^ n + b = a * (2 ^ n + 2 ^ n) + (2 ^ n + b) by ring]

/-- The mean of 192 values whose sum is given, guarded, and its logarithm. -/
def finish (x : EReal) : EReal :=
  Ideal.log (max (Ideal.div x (Ideal.ofBits .f32 0x43400000#32)) (Ideal.ofBits .f32 0x2B8CBCCC#32))

theorem logMean_apply (x : Reg Ideal) (l : Fin 128) :
    logMean x (ix2 0 l) = finish (∑ s : Fin 8, if 1 ≤ s.val ∧ s.val ≤ 6 then (x (ix2 s l) : EReal) else 0) := by
  have k : ∀ s : Fin 8, keep (ix2 s 0) = if 1 ≤ s.val ∧ s.val ≤ 6 then 1#1 else 0#1 := by decide +kernel
  have e : (shapeCast S1x128 (multiReduction .add [0] S128 (select (wide keep) x (broadcast S8x128 (Scalar.ofBits .f32 0#32)))
        0x00000000#32 redOK (.inl rfl) rfl) castOK' (ix2 0 l) : EReal)
      = ∑ s : Fin 8, if 1 ≤ s.val ∧ s.val ≤ 6 then (x (ix2 s l) : EReal) else 0 := by
    rw [Pointwise.shapeCast_apply]
    refine (Ideal.multiReduction_add_single _ _ _ _ _ _).trans (Finset.sum_congr rfl fun (s : Fin 8) _ => ?_)
    rw [show (redOK.lift ((Shape.reshapeEquiv castOK') (ix2 0 l)) s : S8x128.Idx) = ix2 s l from ?_]
    · change Scalar.select (wide keep (ix2 s l)) (x (ix2 s l)) (Ideal.ofBits .f32 0#32 : Ideal .f32) = _
      rw [wide_apply keep s l, k, Ideal.ofBits_zero_f32]
      split <;> rfl
    · have h : (Shape.reshapeEquiv castOK' (ix2 0 l) : S128.Idx) = ix1 l :=
        Shape.reshapeEquiv_eq_of_vals _ _ _ l.val l.val (rowMajor_val1 _) (by rw [rowMajor_val2 _ 128 rfl]; simp) rfl
      rw [h]
      funext a
      match a with
      | ⟨0, _⟩ => rfl
      | ⟨1, _⟩ => rfl
  unfold finish
  rw [← e]
  rfl

theorem logMean_treeSum (w : List (Reg Ideal)) (l : Fin 128) :
    logMean (treeSum 5 0 w) (ix2 0 l) = finish (∑ n ∈ Finset.Ico 32 224, X g0 w l n) := by
  refine (logMean_apply (treeSum 5 0 w) l).trans (congrArg finish ?_)
  have t : ∀ s, (treeSum 5 0 w (ix2 s l) : EReal) = ∑ b ∈ Finset.range 32, (reg w b (ix2 s l) : EReal) := fun s =>
    (treeSum_apply w (ix2 s l) 5 0).trans (Finset.sum_congr rfl fun b _ => by rw [Nat.zero_mul, Nat.zero_add])
  refine (Finset.sum_congr rfl fun s _ => congrArg (fun y : EReal => if 1 ≤ s.val ∧ s.val ≤ 6 then y else 0) (t s)).trans ?_
  rw [Finset.sum_Ico_eq_sum_range, show 224 - 32 = 6 * 32 from rfl, sum_blocks]
  have r : ∀ p < 6, ∑ i ∈ Finset.range 32, X g0 w l (32 + (p * 32 + i)) = ∑ b ∈ Finset.range 32, (reg w b (ix2 (sl (p + 1)) l) : EReal) := by
    intro p hp
    refine Finset.sum_congr rfl fun i hi => ?_
    have hi := Finset.mem_range.mp hi
    unfold X
    rw [show (32 + (p * 32 + i)) / 32 = p + 1 by omega, show (32 + (p * 32 + i)) % 32 = i by omega]
    rfl
  rw [Finset.sum_congr rfl fun p hp => r p (Finset.mem_range.mp hp)]
  generalize hT : (fun s : Fin 8 => ∑ b ∈ Finset.range 32, (reg w b (ix2 s l) : EReal)) = T
  have hT : ∀ s, ∑ b ∈ Finset.range 32, (reg w b (ix2 s l) : EReal) = T s := fun s => congrFun hT s
  simp only [hT]
  rw [Fin.sum_univ_eight, Finset.sum_range_succ, Finset.sum_range_succ, Finset.sum_range_succ, Finset.sum_range_succ, Finset.sum_range_succ,
    Finset.sum_range_one]
  rw [show sl (0 + 1) = 4 from rfl, show sl (1 + 1) = 1 from rfl, show sl (2 + 1) = 5 from rfl, show sl (3 + 1) = 2 from rfl,
    show sl (4 + 1) = 6 from rfl, show sl (5 + 1) = 3 from rfl]
  have i : ∀ s : Fin 8, (if 1 ≤ s.val ∧ s.val ≤ 6 then T s else 0) = if s = 0 ∨ s = 7 then 0 else T s := fun s => by
    fin_cases s <;> rfl
  simp only [i]
  simp
  ac_rfl

theorem chunkVal_apply (v : List (Reg Ideal)) (l : Fin 128) :
    chunkVal v (ix2 0 l) = finish (∑ n ∈ Finset.Ico 32 224, X g0 (network v) l n) := logMean_treeSum (network v) l

/-- A chunk's value at a lane is the guarded logarithm of the mean of the lane's values, trimmed: of any sorted
    arrangement `z` of them, the ones from 32 to 223. -/
theorem chunkVal_eq (v : List (Reg Ideal)) (l : Fin 128) (z : Nat → EReal) (hz : ∀ n m, n ≤ m → m < 256 → z n ≤ z m)
    (e : part (X g0 v l) 0 256 = part z 0 256) :
    chunkVal v (ix2 0 l) = finish (∑ n ∈ Finset.Ico 32 224, z n) := by
  rw [chunkVal_apply, ← trimmed (fun x => x) (X g0 v l) z hz e]
  refine congrArg finish (Finset.sum_congr rfl fun n hn => ?_)
  exact network_X v l n (by have := Finset.mem_Ico.mp hn; omega)

end Cert.Lanes
-- ==== Proof.Column.lean ====
/-
  The kernel's block, column by column, over the extended reals: what the body leaves at a lane depends on the 256 values
  of that lane's column only, and is their trimmed sum, finished.
-/
module

public import proofs.«01_k».proof.Proof.Triple
public import proofs.«01_k».proof.Proof.Lanes

@[expose] public section

noncomputable section

namespace Cert.Column

open Idealize.ShloMosaic Cert.Lanes Cert.Sorting Cert.KernelIdeal Cert.KernelIdeal.Body

/-- The row that the network takes at position `n`. -/
def row (n : Nat) : Nat := 8 * (n % 32) + (sl (n / 32)).val

theorem row_lt (n : Nat) : row n < 256 := by
  unfold row
  have := (sl (n / 32)).isLt
  omega

theorem rows_once : (Multiset.range 256).map row = Multiset.range 256 := by decide +kernel

/-- A column's values, taken in the network's order, are its values. -/
theorem part_row (x : Nat → EReal) : part (fun n => x (row n)) 0 256 = part x 0 256 := by
  unfold part
  rw [show (Finset.Ico 0 256).val = Multiset.range 256 by decide +kernel]
  calc (Multiset.range 256).map (fun n => x (row n)) = ((Multiset.range 256).map row).map x := (Multiset.map_map _ _ _).symm
    _ = _ := by rw [rows_once]

/-- What the kernel makes of a column. -/
def value (x : Nat → EReal) : EReal := finish (∑ n ∈ Finset.Ico 32 224, net (fun n => x (row n)) n)

/-- It is the finished sum of the middle 192 values of the column, sorted. -/
theorem value_eq (x z : Nat → EReal) (hz : ∀ n m, n ≤ m → m < 256 → z n ≤ z m) (e : part x 0 256 = part z 0 256) :
    value x = finish (∑ n ∈ Finset.Ico 32 224, z n) :=
  congrArg finish (trimmed (fun y => y) _ z hz ((part_row x).trans e))

/-- Column `j` of 256 rows. -/
def col {N : Nat} (A : (⟨2, ![256, N]⟩ : Shape).Idx → EReal) (j : Fin N) (n : Nat) : EReal :=
  A (ix2 ⟨n % 256, Nat.mod_lt _ (by omega)⟩ j)

theorem reg_map {F : FTy → Type} [FloatOps F] (f : Fin 32 → Net.Reg F) (a : Nat) (h : a < 32) :
    Net.reg (rows.map f) a = f ⟨a, h⟩ := by
  interval_cases a <;> rfl

theorem regs_X (A : S256x1024.Idx → EReal) (c : Fin 8) (l : Fin 128) (j : Fin 1024) (hj : j.val = 128 * c.val + l.val) :
    X g0 (regs (F := Ideal) A c rows) l = fun n => col A j (row n) := by
  funext n
  unfold X regs
  rw [reg_map _ _ (Nat.mod_lt n (by omega))]
  change A ((inR c _).emb (ix2 (sl (n / 32)) l)) = A _
  congr 1
  funext a
  apply Fin.ext
  rw [Rect.emb_apply]
  match a with
  | ⟨0, _⟩ =>
    change 8 * (n % 32) + 1 * (sl (n / 32)).val = row n % 256
    rw [Nat.mod_eq_of_lt (row_lt n)]
    unfold row; omega
  | ⟨1, _⟩ =>
    change 128 * c.val + 1 * l.val = j.val
    omega

/-- A chunk's value at a lane. -/
theorem chunk_value (A : S256x1024.Idx → EReal) (c : Fin 8) (l : Fin 128) (j : Fin 1024) (hj : j.val = 128 * c.val + l.val) :
    Net.chunkVal (regs (F := Ideal) A c rows) (ix2 0 l) = value (col A j) := by
  rw [chunkVal_apply]
  unfold value
  rw [← regs_X A c l j hj]
  refine congrArg finish (Finset.sum_congr rfl fun n hn => ?_)
  exact network_X _ l n (by have := Finset.mem_Ico.mp hn; omega)

/-- The body's lanes: the ones of the chunks done are done, the others as they were. -/
theorem left_apply (A : S256x1024.Idx → EReal) (j : Fin 1024) : ∀ (cs : List (Fin 8)) (Y : S1x1024.Idx → EReal),
    (left (F := Ideal) A cs Y (ix2 0 j) : EReal) = if ∃ c ∈ cs, j.val / 128 = c.val then value (col A j) else Y (ix2 0 j)
  | [], Y => by rw [if_neg (by simp)]; rfl
  | c :: cs, Y => by
    unfold left
    rw [left_apply A j cs]
    by_cases h : ∃ c ∈ cs, j.val / 128 = c.val
    · rw [if_pos h, if_pos (by obtain ⟨d, hd, e⟩ := h; exact ⟨d, List.mem_cons_of_mem _ hd, e⟩)]
    rw [if_neg h]
    by_cases e : j.val / 128 = c.val
    · rw [if_pos ⟨c, List.mem_cons_self, e⟩]
      have hl : (ix2 0 j : S1x1024.Idx) = (outR c).emb (ix2 (0 : Fin 1) (⟨j.val % 128, Nat.mod_lt _ (by omega)⟩ : Fin 128)) := by
        funext a
        apply Fin.ext
        rw [Rect.emb_apply]
        match a with
        | ⟨0, _⟩ => rfl
        | ⟨1, _⟩ => change j.val = 128 * c.val + 1 * (j.val % 128); omega
      rw [hl, Rect.overlay_emb]
      exact chunk_value A c _ j (by change j.val = 128 * c.val + j.val % 128; omega)
    · rw [if_neg (by
        rintro ⟨d, hd, e'⟩
        rcases List.mem_cons.mp hd with rfl | hd
        · exact e e'
        · exact h ⟨d, hd, e'⟩)]
      refine Rect.overlay_of_not_mem _ _ _ fun hm => e ?_
      have := (Rect.mem_set_unit.mp hm) 1
      have h1 : 128 * c.val ≤ j.val := this.1
      have h2 : j.val < 128 * c.val + 128 := this.2
      omega

end Cert.Column
-- ==== Proof.RefValue.lean ====
/-
  The reference's result at an index, over the extended reals: the finished sum of the middle 192 values of the column,
  sorted.
-/
module

public import proofs.«01_k».proof.Proof.Column
public import proofs.«01_k».proof.Proof.Gen.ReferenceIdeal.Run
public import Idealize.ShloMosaic.Lib.SortFacts

@[expose] public section

noncomputable section

namespace Cert.RefValue

open Idealize.ShloMosaic Cert.Lanes Cert.Sorting Cert.Column Cert.ReferenceIdeal Cert.ReferenceIdeal.Gen

/-- The reference's comparator is `<`. -/
theorem comparator_eq (l r : EReal) : (comparator_f32_d0 (F := Ideal) l r == 1#1) = decide (l < r) := by
  have k : ∀ x : EReal, (Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) : EReal) = x := by
    intro x
    change Scalar.select (BitVec.ofBool (decide (x ≠ x))) _ (Scalar.select (BitVec.ofBool (decide (x = Ideal.ofBits .f32 0#32))) (Ideal.ofBits .f32 0#32) x) = x
    rw [decide_eq_false (by simp)]
    by_cases h : x = Ideal.ofBits .f32 0#32
    · rw [decide_eq_true h, ← h]; rfl
    · rw [decide_eq_false h]; rfl
  unfold comparator_f32_d0
  dsimp only
  rw [k, k]
  change (BitVec.ofBool (decide (l < r)) == 1#1) = _
  cases decide (l < r) <;> rfl

/-- The order in which a column is sorted. -/
def order (x : Nat → EReal) : Fin 256 → Fin 256 := sortedFrom fun k k' => decide (x k.val < x k'.val)

/-- The column sorted. -/
def sorted (x : Nat → EReal) (n : Nat) : EReal := x (order x ⟨n % 256, Nat.mod_lt _ (by omega)⟩).val

theorem sorted_mono (x : Nat → EReal) : ∀ n m, n ≤ m → m < 256 → sorted x n ≤ sorted x m := by
  intro n m h hm
  rcases Nat.eq_or_lt_of_le h with rfl | h
  · exact le_rfl
  have := sortedFrom_noInversion (fun k k' : Fin 256 => decide (x k.val < x k'.val)) (fun k k' : Fin 256 => decide (x k.val < x k'.val))
    (fun a b h => by simp only [decide_eq_true_eq, decide_eq_false_iff_not, not_lt] at h ⊢; exact h.le)
    (fun a b h => h)
    (fun a b c h h' => by simp only [decide_eq_false_iff_not, not_lt] at h h' ⊢; exact h'.trans h)
    ⟨n % 256, Nat.mod_lt _ (by omega)⟩ ⟨m % 256, Nat.mod_lt _ (by omega)⟩
    (by rw [Fin.lt_def]; dsimp only; omega)
  simp only [decide_eq_false_iff_not, not_lt] at this
  exact this

theorem part_fin (x : Nat → EReal) : part x 0 256 = (Finset.univ : Finset (Fin 256)).val.map fun i => x i.val := by
  unfold part
  rw [show (Finset.Ico 0 256).val = (Finset.univ : Finset (Fin 256)).val.map Fin.val by decide +kernel, Multiset.map_map]
  rfl

theorem part_sorted (x : Nat → EReal) : part x 0 256 = part (sorted x) 0 256 := by
  rw [part_fin, part_fin]
  have hb : Function.Bijective (order x) := ⟨sortedFrom_injective _, sortedFrom_surjective _⟩
  have h := Multiset.map_univ_val_equiv (Equiv.ofBijective _ hb)
  conv_lhs => rw [← h, Multiset.map_map]
  refine Multiset.map_congr rfl fun i _ => ?_
  unfold sorted
  simp only [Nat.mod_eq_of_lt i.isLt]
  rfl

theorem along_eq {N K : Nat} (n k : Fin N) (j : Fin K) (h : 0 < 2) :
    (Shape.Idx.along (s := ⟨2, ![N, K]⟩) (ix2 n j) ⟨0, h⟩ k) = ix2 k j := by
  funext a
  match a with
  | ⟨0, _⟩ => rfl
  | ⟨1, _⟩ => rfl

/-- A sort of the columns, at an index. -/
theorem sort_ix2 {N K : Nat} (cmp : EReal → EReal → BitVec 1) (A : (⟨2, ![N, K]⟩ : Shape).Idx → EReal) (n : Fin N) (j : Fin K) :
    Host.sort ⟨2, ![N, K]⟩ 0 cmp A (ix2 n j) = A (ix2 (sortedFrom (fun k k' => cmp (A (ix2 k j)) (A (ix2 k' j)) == 1#1) n) j) := by
  have h : (0 : Nat) < (⟨2, ![N, K]⟩ : Shape).rank := Nat.zero_lt_two
  refine (dif_pos h).trans ?_
  refine (congrArg A (along_eq n _ j h)).trans ?_
  have e : (fun k k' : Fin N => cmp (A (Shape.Idx.along (s := ⟨2, ![N, K]⟩) (ix2 n j) ⟨0, h⟩ k)) (A (Shape.Idx.along (s := ⟨2, ![N, K]⟩) (ix2 n j) ⟨0, h⟩ k')) == 1#1)
      = fun k k' => cmp (A (ix2 k j)) (A (ix2 k' j)) == 1#1 := by
    funext k k'
    rw [along_eq n k j h, along_eq n k' j h]
  rw [← e]
  rfl

/-- The sorted array's columns are the columns sorted. -/
theorem sort_apply (A : S256x100000.Idx → EReal) (n : Fin 256) (j : Fin 100000) :
    (Host.sort S256x100000 0 (comparator_f32_d0 (F := Ideal)) A (ix2 n j) : EReal) = sorted (col A j) n.val := by
  have v : ∀ k : Fin 256, col A j k.val = A (ix2 k j) := fun k => by
    unfold col
    simp only [Nat.mod_eq_of_lt k.isLt]
  rw [sort_ix2]
  unfold sorted order
  simp only [Nat.mod_eq_of_lt n.isLt, v, comparator_eq]

/-- The reference's result. -/
theorem result_apply (A : S256x100000.Idx → EReal) (j : Fin 100000) :
    (Host.log (maximumf (Host.divf (Host.reduceAdd (extractStridedSlice S192x100000 ![32, 0] (Host.sort S256x100000 0 comparator_f32_d0 A) slices_S256x100000_S192x100000_32_0) (constant S_ .f32 0x00000000#32) reducesTo_S192x100000_S100000_d0 h_S_) (broadcastInDim S100000 ![] bcast_S_S100000 (constant S_ .f32 0x43400000#32))) (broadcastInDim S100000 ![] bcast_S_S100000 (constant S_ .f32 0x2B8CBCCC#32)))
      : FVec Ideal S100000 .f32) (ix1 j) = value (col A j) := by
  rw [value_eq _ _ (sorted_mono _) (part_sorted _)]
  have e : (Host.reduceAdd (extractStridedSlice S192x100000 ![32, 0] (Host.sort S256x100000 0 (comparator_f32_d0 (F := Ideal)) A) slices_S256x100000_S192x100000_32_0) (constant S_ .f32 0x00000000#32) reducesTo_S192x100000_S100000_d0 h_S_ (ix1 j) : EReal)
      = ∑ n ∈ Finset.Ico 32 224, sorted (col A j) n := by
    rw [Host.reduceAdd_apply]
    refine (Ideal.hostReduceAdd_r2_a0 _ _ _ _).trans ?_
    rw [show (constant S_ .f32 0x00000000#32 : FVec Ideal S_ .f32) _ = (0 : EReal) from Ideal.ofBits_zero_f32, zero_add,
      Finset.sum_Ico_eq_sum_range, Finset.sum_range]
    refine Finset.sum_congr rfl fun k _ => ?_
    rw [← sort_apply A ⟨32 + k.val, by omega⟩ j, Pointwise.extractStridedSlice_apply]
    refine congrArg _ ?_
    funext a
    match a with
    | ⟨0, _⟩ => rfl
    | ⟨1, _⟩ => exact Fin.ext (Nat.zero_add _)
  unfold finish
  rw [← e]
  rfl

end Cert.RefValue
-- ==== Proof.Value.lean ====
/-
  The kernel's run over the extended reals: the result array ends with every column's value.
-/
module

public import proofs.«01_k».proof.Proof.Frame
public import proofs.«01_k».proof.Proof.Column
public import Idealize.ShloMosaic.Lib.Pipeline.ValueKit
public import Idealize.ShloMosaic.Lib.StableHlo.Run

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable (m : (ℓ : Loc nD τ sig) → Buf (Elt Ideal) ℓ) (ρ : Dev nD → PrngReg)

/-- Every column's value. -/
def columns (c : Dev nD) : S1x100000.Idx → EReal := fun i => Column.value (Column.col (N := 100000) (m ((c : Thread nD τ).loc main_arg0)) (i 1))

/-- What the result's buffer holds after a point: the block of the columns, with zeros past the array's end. -/
def out (c : Dev nD) (t : Fin cfg0.N) : S1x1024.Idx → EReal :=
  win0_1.fill (grid0.coords t) (fun _ => 0) ((win0_1.blk t).view.read (Elt Ideal) (columns m c))

/-- The row `r` of the input's block over an element of the result's. -/
def over (t : Fin cfg0.N) (r : Fin 256) (y : (win0_1.xblock (grid0.coords t)).Idx) : (win0_0.xblock (grid0.coords t)).Idx :=
  fun a => match a with
    | ⟨0, _⟩ => r
    | ⟨1, _⟩ => y 1

/-- An element's lane in the result's buffer, and its column in the array. -/
def lane (t : Fin cfg0.N) (y : (win0_1.xblock (grid0.coords t)).Idx) : Fin 1024 := win0_1.xinj (grid0.coords t) y 1
def place (t : Fin cfg0.N) (y : (win0_1.xblock (grid0.coords t)).Idx) : Fin 100000 := (win0_1.blk t).view.emb y 1

theorem over_emb (t : Fin cfg0.N) (r : Fin 256) (y : (win0_1.xblock (grid0.coords t)).Idx) :
    ((win0_0.blk t).view.emb (over t r y) : S256x100000.Idx) = ix2 r (place t y) := by
  funext a
  apply Fin.ext
  match a with
  | ⟨0, _⟩ => exact (win0_0.rect_emb_val_of_index_zero t 0 rfl (over t r y))
  | ⟨1, _⟩ => rfl

/-- A column of the input's buffer, within the array. -/
theorem col_fill (c : Dev nD) (t : Fin cfg0.N) (d : S256x1024.Idx → EReal) (y : (win0_1.xblock (grid0.coords t)).Idx) :
    Column.col (N := 1024) (win0_0.fill (grid0.coords t) d (iblk m c 0 t)) (lane t y)
      = Column.col (N := 100000) (m ((c : Thread nD τ).loc main_arg0)) (place t y) := by
  funext n
  unfold Column.col
  generalize (⟨n % 256, Nat.mod_lt _ (by omega)⟩ : Fin 256) = r
  have e : (ix2 r (lane t y) : S256x1024.Idx) = win0_0.xinj (grid0.coords t) (over t r y) := by
    funext a
    match a with
    | ⟨0, _⟩ => rfl
    | ⟨1, _⟩ => rfl
  refine (congrArg (win0_0.fill (grid0.coords t) d (iblk m c 0 t)) e).trans ?_
  refine (win0_0.fill_xinj _ _ _ _).trans ?_
  exact congrArg (m ((c : Thread nD τ).loc main_arg0)) (over_emb t r y)

theorem mem_all (j : Fin 1024) : ∃ c ∈ all, j.val / 128 = c.val :=
  ⟨⟨j.val / 128, by omega⟩, by
    have h : ∀ c : Fin 8, c ∈ all := by decide
    exact h _, rfl⟩

/-- What the body leaves of the result's buffer, within the array. -/
theorem cut_left (c : Dev nD) (t : Fin cfg0.N) (d : S256x1024.Idx → EReal) (Y : S1x1024.Idx → EReal) :
    win0_1.cut (grid0.coords t) (Body.left (F := Ideal) (win0_0.fill (grid0.coords t) d (iblk m c 0 t)) all Y)
      = win0_1.cut (grid0.coords t) (out m c t) := by
  unfold out
  rw [win0_1.cut_fill]
  funext y
  have e : (win0_1.xinj (grid0.coords t) y : S1x1024.Idx) = ix2 0 (lane t y) := by
    funext a
    match a with
    | ⟨0, _⟩ => exact Subsingleton.elim (α := Fin 1) _ _
    | ⟨1, _⟩ => rfl
  refine (congrArg (Body.left (F := Ideal) (win0_0.fill (grid0.coords t) d (iblk m c 0 t)) all Y) e).trans ?_
  refine ((Column.left_apply _ _ _ _).trans (if_pos (mem_all _))).trans ?_
  exact congrArg Column.value (col_fill m c t d y)

/-- The body's obligation: within the array, the result's buffer ends holding the columns' values. -/
theorem body (c : Dev nD) : BodyObligationLoose (dats m (out m) 0 c) (defs₀ (F := Ideal)) 𝒱₀ () Set.univ := fun t => by
  rw [bigSep_W0, bigSep_W0]
  simp only
  rw [show (dats m (out m) 0 c).Φ t.succ = (dats m (out m) 0 c).Φ t.castSucc from rfl,
    show (dats m (out m) 0 c).owesAt () t.succ = (dats m (out m) 0 c).owesAt () t.castSucc from rfl]
  iintro ⟨HΦ, Ho, ⟨%d0, H0⟩, ⟨%d1, H1⟩⟩
  rw [before_0 m (out m) c t d0]
  generalize (dats m (out m) 0 c).before (1 : Fin 2) t d1 = Y
  iapply (wp_of_eq (F := Ideal) c Set.univ (st0_0 t) (st0_1 t) all (body_chunks t) (win0_0.fill (grid0.coords t) d0 (iblk m c 0 t)) Y _)
  isplitl [H0 H1]
  · isplitl [H0]
    · iexact H0
    · iexact H1
  iintro ⟨H0, H1⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t) (xblk m c t)))
    rw [show win0_0.cut (grid0.coords t) (xblk m c t) = iblk m c 0 t from win0_0.cut_fill _ _ _]
  · have e := cut_left m c t d0 Y
    generalize Body.left (F := Ideal) (win0_0.fill (grid0.coords t) d0 (iblk m c 0 t)) all Y = Z at e ⊢
    iexists Z
    change _ ⊢ owns (c : Thread nD τ) (st0_1 t) fullShare (win0_1.fill (grid0.coords t) Z (win0_1.cut (grid0.coords t) (out m c t)))
    rw [← e, win0_1.fill_cut]

/-- The result's array after the run. -/
theorem final (c : Dev nD) : (dats m (out m) 0 c).arrAt 1 cfg0.N = columns m c := by
  refine (dats m (out m) 0 c).arrAt_eq_of_cover 1 (columns m c) (fun t _ => ?_) (Pipeline.Window.Covers.cover (w := win0_1) (by decide +kernel) (Memref.isWhole_whole _))
  exact win0_1.cut_fill _ _ _

set_option backward.isDefEq.respectTransparency.types false in
/-- The host line after the region reshapes it. -/
theorem tail (c : Dev nD) : Pipeline.afterTail₀ cfgs (dats m (out m)) 0 (V0 m) [hostOps1] c main_v1
    = shapeCast S100000 (columns m c) shapeCasts_S1x100000_S100000 := by
  unfold Pipeline.afterTail₀
  have e := (Pipeline.withArrays_arr spec0 launch0.win.arr_inj c (V0 m c) (fun w => (dats m (out m) 0 c).arrAt w cfg0.N) 1).trans (final m c)
  change StableHlo.after hostOps1 (Pipeline.withArrays spec0 c (V0 m c) fun w => (dats m (out m) 0 c).arrAt w cfg0.N) (Proc.devRef .tc main_v1) = _
  generalize (Pipeline.withArrays spec0 c (V0 m c) fun w => (dats m (out m) 0 c).arrAt w cfg0.N) = W at e ⊢
  change W (Proc.devRef .tc main_v0) = _ at e
  rw [← e]
  after_results
  rfl

set_option backward.isDefEq.respectTransparency.types false in
/-- Every run ends with the columns' values as the result, and the argument as it was. -/
theorem value_run : θ_run defs (onTc (τ := τ) (main (F := Ideal))) ⟨m, fun _ => 0, ρ⟩ (fun r => ∀ c : Dev nD,
      r.2.mem ((c.tc : Thread nD τ).loc main_v1) = shapeCast S100000 (columns m c) shapeCasts_S1x100000_S100000
      ∧ r.2.mem ((c.tc : Thread nD τ).loc main_arg0) = m ((c.tc : Thread nD τ).loc main_arg0)) :=
  Pipeline.θ_run_frame_around cfgs (dats m (out m)) 0 launch0 defs₀ 𝒱₀ m ρ main
    (body m)
    (fun c => (dats m _ 0 c).share_full fun _ => rfl) (fun _ _ => rfl)
    (V0 m) [hostOps1] sfx_sub sfx_fresh sfx_keeps (hmain m 𝒱₀) (fun _ _ => rfl) (fun _ _ => rfl)
    (Q' := _)
    (hQ' := fun r h c => ⟨
        (h.1.rest_eq c main_v1 (by decide)).trans (tail m c),
      (h.1.in_eq c 0 rfl).trans (V_main_arg0 m c)⟩)

end Cert.KernelIdeal.Run
-- ==== Proof.lean ====
/-
  The claims: the two kernels' frames from one run, the reference's from its run read back, and the two results equal over
  the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameKernel
public import proofs.«01_k».proof.Proof.RefValue
public import proofs.«01_k».proof.Proof.Value
public import Idealize.ShloMosaic.Adequacy
public import Idealize.ShloMosaic.Init

@[expose] public section

noncomputable section

namespace Cert.Proof

open Idealize.ShloMosaic Idealize.SL.Sem Cert.Kernel

theorem quiescent_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's result is the columns' values, as the kernel's reshape lays them out. -/
theorem result_eq (m : (ℓ : Loc Cert.KernelIdeal.nD Cert.KernelIdeal.τ Cert.KernelIdeal.sig) → Buf (Elt Ideal) ℓ) (c : Dev Cert.KernelIdeal.nD)
    (R : Cert.ReferenceIdeal.S100000.Idx → EReal)
    (h : ∀ j : Fin 100000, R (ix1 j) = Cert.Column.value (Cert.Column.col (N := 100000) (m ((c.tc : Thread Cert.KernelIdeal.nD Cert.KernelIdeal.τ).loc Cert.KernelIdeal.main_arg0)) j)) :
    R = shapeCast Cert.KernelIdeal.S100000 (Cert.KernelIdeal.Run.columns m c) Cert.KernelIdeal.Gen.shapeCasts_S1x100000_S100000 := by
  funext i
  obtain ⟨j, rfl⟩ : ∃ j : Fin 100000, i = ix1 j := ⟨i 0, eq_ix1 i⟩
  rw [h, Pointwise.shapeCast_apply]
  have e : (Shape.reshapeEquiv Cert.KernelIdeal.Gen.shapeCasts_S1x100000_S100000 (ix1 j) : Cert.KernelIdeal.S1x100000.Idx) = ix2 0 j :=
    Shape.reshapeEquiv_eq_of_vals _ _ _ j.val j.val (by rw [rowMajor_val2 _ 100000 rfl]; simp) (rowMajor_val1 _) rfl
  rw [e]
  rfl

theorem algebraic : Cert.algebraic_KernelIdeal_ReferenceIdeal := fun m g m' g' _ hm =>
  ⟨fun c => shapeCast Cert.KernelIdeal.S100000 (Cert.KernelIdeal.Run.columns m c) Cert.KernelIdeal.Gen.shapeCasts_S1x100000_S100000,
    Cert.KernelIdeal.Run.value_run m g,
    (θ_run Cert.ReferenceIdeal.defs _ _).mono (fun r h c => ⟨(h c).1.trans (result_eq m c _ fun j => by
        rw [hm c]
        exact Cert.RefValue.result_apply _ j), (h c).2⟩)
      (Cert.ReferenceIdeal.Value.run (F := Ideal) m' g')⟩

theorem claim : Cert.Claim := ⟨Cert.Kernel.Gen.facts, Cert.KernelIdeal.Gen.facts, Cert.ReferenceIdeal.Gen.facts,
  Cert.KernelIdeal.Run.quiescent_kernel, Cert.KernelIdeal.Run.quiescent_kernelIdeal, quiescent_reference, trivial, algebraic⟩

end Cert.Proof

end
